-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_other_domains_empty [hPre_other_domains_empty : Cert.Pre_other_domains_empty.Facts] (m : (ℓ : Loc Cert.KernelIdeal.nD Cert.KernelIdeal.τ Cert.KernelIdeal.sig) → Buf (Elt Ideal) ℓ) : Prop :=
  ∀ c : Dev Cert.KernelIdeal.nD,
    (Cert.Pre_other_domains_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_other_domains_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_other_domains_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_other_domains_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_other_domains_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_other_domains_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_other_domains_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_other_domains_empty [hPre_other_domains_empty : Cert.Pre_other_domains_empty.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_other_domains_empty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_other_domains_empty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_other_domains_empty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_other_domains_empty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_other_domains_empty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_other_domains_empty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_other_domains_empty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_other_domains_empty [hKernelIdeal : Cert.KernelIdeal.Facts] [hPre_other_domains_empty : Cert.Pre_other_domains_empty.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_other_domains_empty m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_other_domains_empty [hReferenceIdeal : Cert.ReferenceIdeal.Facts] [hPre_other_domains_empty : Cert.Pre_other_domains_empty.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_other_domains_empty m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "m" .f32 0x3F666666#32 ((9 / 10 : ℝ) : EReal)
  ∧ IdealRules.named_const.Statement Cert.KernelIdeal.κ "one_minus_m" .f32 0x3DCCCCCD#32 ((1 / 10 : ℝ) : EReal)
  ∧ IdealRules.named_const.Statement Cert.KernelIdeal.κ "ln_m" .f32 0xBDD7C741#32 ((Real.log (9 / 10) : ℝ) : EReal)

def algebraic_KernelIdeal_ReferenceIdeal_pre_other_domains_empty [hKernelIdeal : Cert.KernelIdeal.Facts] [hReferenceIdeal : Cert.ReferenceIdeal.Facts] [hPre_other_domains_empty : Cert.Pre_other_domains_empty.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_other_domains_empty m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v13_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_v139) = v3 c
          ∧ r.2.mem ((c.tc : Thread Cert.ReferenceIdeal.nD Cert.ReferenceIdeal.τ).loc Cert.ReferenceIdeal.main_v144) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_other_domains_empty : Cert.Pre_other_domains_empty.Facts),
    quiescent_Kernel (hKernel := hKernel)
    ∧ quiescent_KernelIdeal (hKernelIdeal := hKernelIdeal)
    ∧ quiescent_KernelIdeal_pre_other_domains_empty (hKernelIdeal := hKernelIdeal) (hPre_other_domains_empty := hPre_other_domains_empty)
    ∧ quiescent_ReferenceIdeal (hReferenceIdeal := hReferenceIdeal)
    ∧ quiescent_ReferenceIdeal_pre_other_domains_empty (hReferenceIdeal := hReferenceIdeal) (hPre_other_domains_empty := hPre_other_domains_empty)
    ∧ preserves_Kernel_KernelIdeal
    ∧ algebraic_KernelIdeal_ReferenceIdeal_pre_other_domains_empty (hKernelIdeal := hKernelIdeal) (hReferenceIdeal := hReferenceIdeal) (hPre_other_domains_empty := hPre_other_domains_empty)
-- ==== Pre_other_domains_empty.lean ====
abbrev S16384x128 : Shape := ⟨2, ![16384, 128]⟩
abbrev S50x1000x128 : Shape := ⟨3, ![50, 1000, 128]⟩
abbrev S50x1000 : Shape := ⟨2, ![50, 1000]⟩
abbrev S16384 : Shape := ⟨1, ![16384]⟩
abbrev S_ : Shape := ⟨0, ![]⟩

class Facts : Prop where
  bcast_S_S16384 : S_.BroadcastsInDim S16384 (![] : Fin 0 → Fin S16384.rank)
  bcast_S_S50x1000x128 : S_.BroadcastsInDim S50x1000x128 (![] : Fin 0 → Fin S50x1000x128.rank)
  bcast_S_S50x1000 : S_.BroadcastsInDim S50x1000 (![] : Fin 0 → Fin S50x1000.rank)

variable [Facts]

def fn_part1 {F : FTy → Type} [FloatOps F] (main_arg2 : FVec F S50x1000x128 .f32) (main_arg3 : FVec F S50x1000 .f32) (main_arg4 : FVec F S50x1000 .f32) (main_arg5 : FVec F S50x1000x128 .f32) (main_arg7 : IVec S_ 32) (main_v0 : IVec S50x1000x128 32) (main_v1 : IVec S50x1000 32) (main_v6 : IVec S16384 1) (main_v9 : IVec S_ 1) (main_v14 : IVec S50x1000x128 1) (main_v16 : IVec S50x1000x128 1) (main_v17 : FVec F S50x1000x128 .f32) : IVec S16384 1 × IVec S_ 1 × IVec S50x1000x128 1 × IVec S50x1000x128 1 × IVec S50x1000 1 × IVec S50x1000 1 × IVec S50x1000x128 1 :=
  let main_v18 : IVec S50x1000x128 1 := cmpf .oeq main_arg2 main_v17
  let main_v19 : IVec S50x1000x128 1 := ori main_v16 main_v18
  let main_v20 : IVec S50x1000 32 := broadcastInDim S50x1000 ![] bcast_S_S50x1000 main_arg7
  let main_v21 : IVec S50x1000 1 := cmpi .eq main_v1 main_v20
  let main_cst_4 : FVec F S_ .f32 := constant S_ .f32 0x00000000#32
  let main_v22 : FVec F S50x1000 .f32 := broadcastInDim S50x1000 ![] bcast_S_S50x1000 main_cst_4
  let main_v23 : IVec S50x1000 1 := cmpf .oeq main_arg3 main_v22
  let main_v24 : IVec S50x1000 1 := ori main_v21 main_v23
  let main_v25 : IVec S50x1000 32 := broadcastInDim S50x1000 ![] bcast_S_S50x1000 main_arg7
  let main_v26 : IVec S50x1000 1 := cmpi .eq main_v1 main_v25
  let main_cst_5 : FVec F S_ .f32 := constant S_ .f32 0x00000000#32
  let main_v27 : FVec F S50x1000 .f32 := broadcastInDim S50x1000 ![] bcast_S_S50x1000 main_cst_5
  let main_v28 : IVec S50x1000 1 := cmpf .oeq main_arg4 main_v27
  let main_v29 : IVec S50x1000 1 := ori main_v26 main_v28
  let main_v30 : IVec S50x1000x128 32 := broadcastInDim S50x1000x128 ![] bcast_S_S50x1000x128 main_arg7
  let main_v31 : IVec S50x1000x128 1 := cmpi .eq main_v0 main_v30
  let main_cst_6 : FVec F S_ .f32 := constant S_ .f32 0x00000000#32
  let main_v32 : FVec F S50x1000x128 .f32 := broadcastInDim S50x1000x128 ![] bcast_S_S50x1000x128 main_cst_6
  let main_v33 : IVec S50x1000x128 1 := cmpf .oeq main_arg5 main_v32
  let main_v34 : IVec S50x1000x128 1 := ori main_v31 main_v33
  (main_v6, main_v9, main_v14, main_v19, main_v24, main_v29, main_v34)

def fn {F : FTy → Type} [FloatOps F] (main_arg0 : FVec F S16384x128 .f32) (main_arg1 : FVec F S50x1000x128 .f32) (main_arg2 : FVec F S50x1000x128 .f32) (main_arg3 : FVec F S50x1000 .f32) (main_arg4 : FVec F S50x1000 .f32) (main_arg5 : FVec F S50x1000x128 .f32) (main_arg6 : IVec S16384 32) (main_arg7 : IVec S_ 32) : IVec S16384 1 × IVec S_ 1 × IVec S50x1000x128 1 × IVec S50x1000x128 1 × IVec S50x1000 1 × IVec S50x1000 1 × IVec S50x1000x128 1 :=
  let main_v0 : IVec S50x1000x128 32 := iotaInDim S50x1000x128 32 0
  let main_v1 : IVec S50x1000 32 := iotaInDim S50x1000 32 0
  let main_c : IVec S_ 32 := constantI S_ 32 0#32
  let main_v2 : IVec S16384 32 := broadcastInDim S16384 ![] bcast_S_S16384 main_c
  let main_v3 : IVec S16384 1 := cmpi .sge main_arg6 main_v2
  let main_c_0 : IVec S_ 32 := constantI S_ 32 1000#32
  let main_v4 : IVec S16384 32 := broadcastInDim S16384 ![] bcast_S_S16384 main_c_0
  let main_v5 : IVec S16384 1 := cmpi .slt main_arg6 main_v4
  let main_v6 : IVec S16384 1 := andi main_v3 main_v5
  let main_c_1 : IVec S_ 32 := constantI S_ 32 0#32
  let main_v7 : IVec S_ 1 := cmpi .sge main_arg7 main_c_1
  let main_c_2 : IVec S_ 32 := constantI S_ 32 50#32
  let main_v8 : IVec S_ 1 := cmpi .slt main_arg7 main_c_2
  let main_v9 : IVec S_ 1 := andi main_v7 main_v8
  let main_v10 : IVec S50x1000x128 32 := broadcastInDim S50x1000x128 ![] bcast_S_S50x1000x128 main_arg7
  let main_v11 : IVec S50x1000x128 1 := cmpi .eq main_v0 main_v10
  let main_cst : FVec F S_ .f32 := constant S_ .f32 0x00000000#32
  let main_v12 : FVec F S50x1000x128 .f32 := broadcastInDim S50x1000x128 ![] bcast_S_S50x1000x128 main_cst
  let main_v13 : IVec S50x1000x128 1 := cmpf .oeq main_arg1 main_v12
  let main_v14 : IVec S50x1000x128 1 := ori main_v11 main_v13
  let main_v15 : IVec S50x1000x128 32 := broadcastInDim S50x1000x128 ![] bcast_S_S50x1000x128 main_arg7
  let main_v16 : IVec S50x1000x128 1 := cmpi .eq main_v0 main_v15
  let main_cst_3 : FVec F S_ .f32 := constant S_ .f32 0x00000000#32
  let main_v17 : FVec F S50x1000x128 .f32 := broadcastInDim S50x1000x128 ![] bcast_S_S50x1000x128 main_cst_3
  fn_part1 (F := F) main_arg2 main_arg3 main_arg4 main_arg5 main_arg7 main_v0 main_v1 main_v6 main_v9 main_v14 main_v16 main_v17
-- ==== Kernel.lean ====
abbrev S16384x128 : Shape := ⟨2, ![16384, 128]⟩
abbrev S50x1000x128 : Shape := ⟨3, ![50, 1000, 128]⟩
abbrev S50x1000 : Shape := ⟨2, ![50, 1000]⟩
abbrev S16384 : Shape := ⟨1, ![16384]⟩
abbrev S_ : Shape := ⟨0, ![]⟩
abbrev S1x1000x128 : Shape := ⟨3, ![1, 1000, 128]⟩
abbrev S1000x128 : Shape := ⟨2, ![1000, 128]⟩
abbrev S1x1000 : Shape := ⟨2, ![1, 1000]⟩
abbrev S1000 : Shape := ⟨1, ![1000]⟩
abbrev S1000x1 : Shape := ⟨2, ![1000, 1]⟩
abbrev S16x1x1024 : Shape := ⟨3, ![16, 1, 1024]⟩
abbrev S1x1x1024 : Shape := ⟨3, ![1, 1, 1024]⟩
abbrev S1024x128 : Shape := ⟨2, ![1024, 128]⟩
abbrev S1000x256 : Shape := ⟨2, ![1000, 256]⟩
abbrev S1x1024 : Shape := ⟨2, ![1, 1024]⟩
abbrev S1000x1024 : Shape := ⟨2, ![1000, 1024]⟩
abbrev S1024x256 : Shape := ⟨2, ![1024, 256]⟩
abbrev S1x1 : Shape := ⟨2, ![1, 1]⟩
abbrev S50x1x1000 : Shape := ⟨3, ![50, 1, 1000]⟩
abbrev S1x1x1000 : Shape := ⟨3, ![1, 1, 1000]⟩

abbrev nBuf : Space → Nat
  | .hbm => 70
  | .vmem => 31
  | .smem => 1
  | _ => 0

abbrev bufTy : (tb : Table) → Fin (tcTables nBuf tb) → BufTy
  | .hbm, ⟨0, _⟩ => ⟨S16384x128, .f32⟩
  | .hbm, ⟨1, _⟩ => ⟨S50x1000x128, .f32⟩
  | .hbm, ⟨2, _⟩ => ⟨S50x1000x128, .f32⟩
  | .hbm, ⟨3, _⟩ => ⟨S50x1000, .f32⟩
  | .hbm, ⟨4, _⟩ => ⟨S50x1000, .f32⟩
  | .hbm, ⟨5, _⟩ => ⟨S50x1000x128, .f32⟩
  | .hbm, ⟨6, _⟩ => ⟨S16384, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1x1000x128, .f32⟩
  | .hbm, ⟨16, _⟩ => ⟨S1000x128, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x1000x128, .f32⟩
  | .hbm, ⟨25, _⟩ => ⟨S1000x128, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1x1000, .f32⟩
  | .hbm, ⟨33, _⟩ => ⟨S1000, .f32⟩
  | .hbm, ⟨34, _⟩ => ⟨S1000x1, .f32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x1000, .f32⟩
  | .hbm, ⟨42, _⟩ => ⟨S1000, .f32⟩
  | .hbm, ⟨43, _⟩ => ⟨S1000x1, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1x1000x128, .f32⟩
  | .hbm, ⟨52, _⟩ => ⟨S1000x128, .f32⟩
  | .hbm, ⟨53, _⟩ => ⟨S16384, .i16⟩
  | .hbm, ⟨54, _⟩ => ⟨S16x1x1024, .i16⟩
  | .hbm, ⟨55, _⟩ => ⟨S1000x128, .f32⟩
  | .hbm, ⟨56, _⟩ => ⟨S1000x128, .f32⟩
  | .hbm, ⟨57, _⟩ => ⟨S1000x1, .f32⟩
  | .hbm, ⟨58, _⟩ => ⟨S1000x1, .f32⟩
  | .hbm, ⟨59, _⟩ => ⟨S1000x128, .f32⟩
  | .hbm, ⟨60, _⟩ => ⟨S1x1000, .f32⟩
  | .hbm, ⟨61, _⟩ => ⟨S1x1000, .f32⟩
  | .hbm, ⟨62, _⟩ => ⟨S1x1, .i32⟩
  | .hbm, ⟨63, _⟩ => ⟨S50x1000x128, .f32⟩
  | .hbm, ⟨64, _⟩ => ⟨S50x1000x128, .f32⟩
  | .hbm, ⟨65, _⟩ => ⟨S50x1x1000, .f32⟩
  | .hbm, ⟨66, _⟩ => ⟨S50x1x1000, .f32⟩
  | .hbm, ⟨67, _⟩ => ⟨S50x1000x128, .f32⟩
  | .hbm, ⟨68, _⟩ => ⟨S50x1000, .f32⟩
  | .hbm, ⟨69, _⟩ => ⟨S50x1000, .f32⟩
  | .local _ .vmem, ⟨0, _⟩ => ⟨S1x1x1024, .i16⟩
  | .local _ .vmem, ⟨1, _⟩ => ⟨S1x1x1024, .i16⟩
  | .local _ .vmem, ⟨2, _⟩ => ⟨S1024x128, .f32⟩
  | .local _ .vmem, ⟨3, _⟩ => ⟨S1024x128, .f32⟩
  | .local _ .vmem, ⟨4, _⟩ => ⟨S1000x128, .f32⟩
  | .local _ .vmem, ⟨5, _⟩ => ⟨S1000x128, .f32⟩
  | .local _ .vmem, ⟨6, _⟩ => ⟨S1000x1, .f32⟩
  | .local _ .vmem, ⟨7, _⟩ => ⟨S1000x1, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x1, .f32⟩
  | .local _ .vmem, ⟨12, _⟩ => ⟨S1000x1, .f32⟩
  | .local _ .vmem, ⟨13, _⟩ => ⟨S1000x128, .f32⟩
  | .local _ .vmem, ⟨14, _⟩ => ⟨S1000x256, .f32⟩
  | .local _ .vmem, ⟨15, _⟩ => ⟨S1000x1, .f32⟩
  | .local _ .vmem, ⟨16, _⟩ => ⟨S1000x128, .f32⟩
  | .local _ .vmem, ⟨17, _⟩ => ⟨S1000x128, .f32⟩
  | .local _ .vmem, ⟨18, _⟩ => ⟨S1x1000, .f32⟩
  | .local _ .vmem, ⟨19, _⟩ => ⟨S1x1000, .f32⟩
  | .local _ .vmem, ⟨20, _⟩ => ⟨S1000x128, .f32⟩
  | .local _ .vmem, ⟨21, _⟩ => ⟨S1x1000x128, .f32⟩
  | .local _ .vmem, ⟨22, _⟩ => ⟨S1x1000x128, .f32⟩
  | .local _ .vmem, ⟨23, _⟩ => ⟨S1x1000x128, .f32⟩
  | .local _ .vmem, ⟨24, _⟩ => ⟨S1x1000x128, .f32⟩
  | .local _ .vmem, ⟨25, _⟩ => ⟨S1x1x1000, .f32⟩
  | .local _ .vmem, ⟨26, _⟩ => ⟨S1x1x1000, .f32⟩
  | .local _ .vmem, ⟨27, _⟩ => ⟨S1x1x1000, .f32⟩
  | .local _ .vmem, ⟨28, _⟩ => ⟨S1x1x1000, .f32⟩
  | .local _ .vmem, ⟨29, _⟩ => ⟨S1x1000x128, .f32⟩
  | .local _ .vmem, ⟨30, _⟩ => ⟨S1x1000x128, .f32⟩
  | .local _ .smem, ⟨0, _⟩ => ⟨S1x1, .i32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_c_0 : Ref sig .tc := ⟨.hbm, 10, rfl⟩
abbrev main_call0_v1 : Ref sig .tc := ⟨.hbm, 11, rfl⟩
abbrev main_call0_v2 : Ref sig .tc := ⟨.hbm, 12, rfl⟩
abbrev main_call0_c_1 : Ref sig .tc := ⟨.hbm, 13, rfl⟩
abbrev main_call0_c_2 : Ref sig .tc := ⟨.hbm, 14, rfl⟩
abbrev main_call0_v3 : Ref sig .tc := ⟨.hbm, 15, rfl⟩
abbrev main_v0 : Ref sig .tc := ⟨.hbm, 16, rfl⟩
abbrev main_call1_c : Ref sig .tc := ⟨.hbm, 17, rfl⟩
abbrev main_call1_v0 : Ref sig .tc := ⟨.hbm, 18, rfl⟩
abbrev main_call1_c_0 : Ref sig .tc := ⟨.hbm, 19, rfl⟩
abbrev main_call1_v1 : Ref sig .tc := ⟨.hbm, 20, rfl⟩
abbrev main_call1_v2 : Ref sig .tc := ⟨.hbm, 21, rfl⟩
abbrev main_call1_c_1 : Ref sig .tc := ⟨.hbm, 22, rfl⟩
abbrev main_call1_c_2 : Ref sig .tc := ⟨.hbm, 23, rfl⟩
abbrev main_call1_v3 : Ref sig .tc := ⟨.hbm, 24, rfl⟩
abbrev main_v1 : Ref sig .tc := ⟨.hbm, 25, rfl⟩
abbrev main_call2_c : Ref sig .tc := ⟨.hbm, 26, rfl⟩
abbrev main_call2_v0 : Ref sig .tc := ⟨.hbm, 27, rfl⟩
abbrev main_call2_c_0 : Ref sig .tc := ⟨.hbm, 28, rfl⟩
abbrev main_call2_v1 : Ref sig .tc := ⟨.hbm, 29, rfl⟩
abbrev main_call2_v2 : Ref sig .tc := ⟨.hbm, 30, rfl⟩
abbrev main_call2_c_1 : Ref sig .tc := ⟨.hbm, 31, rfl⟩
abbrev main_call2_v3 : Ref sig .tc := ⟨.hbm, 32, rfl⟩
abbrev main_v2 : Ref sig .tc := ⟨.hbm, 33, rfl⟩
abbrev main_v3 : Ref sig .tc := ⟨.hbm, 34, rfl⟩
abbrev main_call3_c : Ref sig .tc := ⟨.hbm, 35, rfl⟩
abbrev main_call3_v0 : Ref sig .tc := ⟨.hbm, 36, rfl⟩
abbrev main_call3_c_0 : Ref sig .tc := ⟨.hbm, 37, rfl⟩
abbrev main_call3_v1 : Ref sig .tc := ⟨.hbm, 38, rfl⟩
abbrev main_call3_v2 : Ref sig .tc := ⟨.hbm, 39, rfl⟩
abbrev main_call3_c_1 : Ref sig .tc := ⟨.hbm, 40, rfl⟩
abbrev main_call3_v3 : Ref sig .tc := ⟨.hbm, 41, rfl⟩
abbrev main_v4 : Ref sig .tc := ⟨.hbm, 42, rfl⟩
abbrev main_v5 : Ref sig .tc := ⟨.hbm, 43, rfl⟩
abbrev main_call4_c : Ref sig .tc := ⟨.hbm, 44, rfl⟩
abbrev main_call4_v0 : Ref sig .tc := ⟨.hbm, 45, rfl⟩
abbrev main_call4_c_0 : Ref sig .tc := ⟨.hbm, 46, rfl⟩
abbrev main_call4_v1 : Ref sig .tc := ⟨.hbm, 47, rfl⟩
abbrev main_call4_v2 : Ref sig .tc := ⟨.hbm, 48, rfl⟩
abbrev main_call4_c_1 : Ref sig .tc := ⟨.hbm, 49, rfl⟩
abbrev main_call4_c_2 : Ref sig .tc := ⟨.hbm, 50, rfl⟩
abbrev main_call4_v3 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9_0 : Ref sig .tc := ⟨.hbm, 55, rfl⟩
abbrev main_v9_1 : Ref sig .tc := ⟨.hbm, 56, rfl⟩
abbrev main_v9_2 : Ref sig .tc := ⟨.hbm, 57, rfl⟩
abbrev main_v9_3 : Ref sig .tc := ⟨.hbm, 58, rfl⟩
abbrev main_v9_4 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13_0 : Ref sig .tc := ⟨.hbm, 63, rfl⟩
abbrev main_v13_1 : Ref sig .tc := ⟨.hbm, 64, rfl⟩
abbrev main_v13_2 : Ref sig .tc := ⟨.hbm, 65, rfl⟩
abbrev main_v13_3 : Ref sig .tc := ⟨.hbm, 66, rfl⟩
abbrev main_v13_4 : Ref sig .tc := ⟨.hbm, 67, rfl⟩
abbrev main_v14 : Ref sig .tc := ⟨.hbm, 68, rfl⟩
abbrev main_v15 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v30 : BitVec 1 := Scalar.cmpi .eq arg0 c15_i32
  let v31 : BitVec 32 := Scalar.extui v30
  let c0_i32_14 : BitVec 32 := 0#32
  let v32 : BitVec 1 := Scalar.cmpi .ne v31 c0_i32_14
  v32

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024 .i16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1000x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1000x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1000x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1000x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1000x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1000x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1000x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1000x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S1x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1000x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x1000 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x1000 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== KernelIdeal.lean ====
variable {F : FTy → Type} [FloatOps F] [Named F]
def κ : String → Option EReal := fun
  | "ln_m" => some ((Real.log (9 / 10) : ℝ) : EReal)
  | "m" => some ((9 / 10 : ℝ) : EReal)
  | "one_minus_m" => some ((1 / 10 : ℝ) : EReal)
  | _ => none
-- ==== ReferenceIdeal.lean ====
abbrev S16384x128 : Shape := ⟨2, ![16384, 128]⟩
abbrev S50x1000x128 : Shape := ⟨3, ![50, 1000, 128]⟩
abbrev S50x1000 : Shape := ⟨2, ![50, 1000]⟩
abbrev S16384 : Shape := ⟨1, ![16384]⟩
abbrev S_ : Shape := ⟨0, ![]⟩
abbrev S1000x128 : Shape := ⟨2, ![1000, 128]⟩
abbrev S16384x1 : Shape := ⟨2, ![16384, 1]⟩
abbrev S1000 : Shape := ⟨1, ![1000]⟩
abbrev S1x1000x128 : Shape := ⟨3, ![1, 1000, 128]⟩
abbrev S1x1000 : Shape := ⟨2, ![1, 1000]⟩
abbrev S1000x1 : Shape := ⟨2, ![1000, 1]⟩
abbrev S1 : Shape := ⟨1, ![1]⟩

abbrev nBuf : Space → Nat
  | .hbm => 238
  | .vmem => 0
  | .smem => 0
  | _ => 0

abbrev hbmTy0_0 (i : Nat) : BufTy := match i % 128 with
  | 0 => ⟨S16384x128, .f32⟩
  | 1 => ⟨S50x1000x128, .f32⟩
  | 2 => ⟨S50x1000x128, .f32⟩
  | 3 => ⟨S50x1000, .f32⟩
  | 4 => ⟨S50x1000, .f32⟩
  | 5 => ⟨S50x1000x128, .f32⟩
  | 6 => ⟨S16384, .i32⟩
  | 7 => ⟨S_, .i32⟩
  | 8 => ⟨S_, .f32⟩
  | 9 => ⟨S_, .f32⟩
  | 10 => ⟨S_, .f32⟩
  | 11 => ⟨S_, .f32⟩
  | 12 => ⟨S1000x128, .f32⟩
  | 13 => ⟨S16384x1, .i32⟩
  | 14 => ⟨S1000x128, .f32⟩
  | 15 => ⟨S16384x128, .f32⟩
  | 16 => ⟨S_, .f32⟩
  | 17 => ⟨S1000x128, .f32⟩
  | 18 => ⟨S16384x1, .i32⟩
  | 19 => ⟨S1000x128, .f32⟩
  | 20 => ⟨S_, .f32⟩
  | 21 => ⟨S16384, .f32⟩
  | 22 => ⟨S_, .f32⟩
  | 23 => ⟨S1000, .f32⟩
  | 24 => ⟨S16384x1, .i32⟩
  | 25 => ⟨S1000, .f32⟩
  | 26 => ⟨S_, .f32⟩
  | 27 => ⟨S1000, .f32⟩
  | 28 => ⟨S1000, .i1⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S1x1000x128, .f32⟩
  | 51 => ⟨S1000x128, .f32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S1x1000x128, .f32⟩
  | 74 => ⟨S1000x128, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S1x1000, .f32⟩
  | 89 => ⟨S1000, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S1x1000, .f32⟩
  | 104 => ⟨S1000, .f32⟩
  | 105 => ⟨S_, .f32⟩
  | 106 => ⟨S1000, .f32⟩
  | 107 => ⟨S1000, .i1⟩
  | 108 => ⟨S_, .f32⟩
  | 109 => ⟨S1000x128, .f32⟩
  | 110 => ⟨S1000x128, .f32⟩
  | 111 => ⟨S_, .f32⟩
  | 112 => ⟨S_, .f32⟩
  | 113 => ⟨S_, .f32⟩
  | 114 => ⟨S1000x128, .f32⟩
  | 115 => ⟨S1000x128, .f32⟩
  | 116 => ⟨S1000x128, .f32⟩
  | 117 => ⟨S_, .f32⟩
  | 118 => ⟨S1000x128, .f32⟩
  | 119 => ⟨S1000x128, .f32⟩
  | 120 => ⟨S_, .f32⟩
  | 121 => ⟨S_, .f32⟩
  | 122 => ⟨S_, .f32⟩
  | 123 => ⟨S1000x128, .f32⟩
  | 124 => ⟨S1000x128, .f32⟩
  | 125 => ⟨S1000x128, .f32⟩
  | 126 => ⟨S_, .f32⟩
  | 127 => ⟨S1000, .f32⟩
  | _ => ⟨S16384x128, .f32⟩

abbrev hbmTy0_1 (i : Nat) : BufTy := match i % 128 with
  | 0 => ⟨S1000, .f32⟩
  | 1 => ⟨S_, .f32⟩
  | 2 => ⟨S_, .f32⟩
  | 3 => ⟨S_, .f32⟩
  | 4 => ⟨S1000, .f32⟩
  | 5 => ⟨S1000, .f32⟩
  | 6 => ⟨S1000, .f32⟩
  | 7 => ⟨S1000x1, .i1⟩
  | 8 => ⟨S1000x128, .i1⟩
  | 9 => ⟨S1000x128, .f32⟩
  | 10 => ⟨S1000x1, .i1⟩
  | 11 => ⟨S1000x128, .i1⟩
  | 12 => ⟨S1000x128, .f32⟩
  | 13 => ⟨S1000, .f32⟩
  | 14 => ⟨S_, .f32⟩
  | 15 => ⟨S1000, .f32⟩
  | 16 => ⟨S1000, .f32⟩
  | 17 => ⟨S_, .f32⟩
  | 18 => ⟨S_, .f32⟩
  | 19 => ⟨S1000, .f32⟩
  | 20 => ⟨S1000, .f32⟩
  | 21 => ⟨S1000x1, .i1⟩
  | 22 => ⟨S1000x128, .i1⟩
  | 23 => ⟨S1000x128, .f32⟩
  | 24 => ⟨S1000x1, .i1⟩
  | 25 => ⟨S1000x128, .i1⟩
  | 26 => ⟨S1000x128, .f32⟩
  | 27 => ⟨S1000, .f32⟩
  | 28 => ⟨S1000, .f32⟩
  | 29 => ⟨S_, .f32⟩
  | 30 => ⟨S1000, .f32⟩
  | 31 => ⟨S1000, .f32⟩
  | 32 => ⟨S_, .f32⟩
  | 33 => ⟨S1000, .f32⟩
  | 34 => ⟨S1000, .f32⟩
  | 35 => ⟨S_, .f32⟩
  | 36 => ⟨S1000, .f32⟩
  | 37 => ⟨S1000, .f32⟩
  | 38 => ⟨S1000x1, .f32⟩
  | 39 => ⟨S1000x128, .f32⟩
  | 40 => ⟨S1000x128, .f32⟩
  | 41 => ⟨S1000, .f32⟩
  | 42 => ⟨S_, .f32⟩
  | 43 => ⟨S_, .f32⟩
  | 44 => ⟨S1000, .f32⟩
  | 45 => ⟨S1000, .f32⟩
  | 46 => ⟨S1000x1, .f32⟩
  | 47 => ⟨S1000x128, .f32⟩
  | 48 => ⟨S1000x128, .f32⟩
  | 49 => ⟨S1000x1, .i1⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S1x1000x128, .f32⟩
  | 72 => ⟨S1000x128, .f32⟩
  | 73 => ⟨S1000x128, .i1⟩
  | 74 => ⟨S1000x128, .f32⟩
  | 75 => ⟨S_, .i32⟩
  | 76 => ⟨S_, .i1⟩
  | 77 => ⟨S_, .i32⟩
  | 78 => ⟨S_, .i32⟩
  | 79 => ⟨S_, .i32⟩
  | 80 => ⟨S1, .i32⟩
  | 81 => ⟨S50x1000x128, .f32⟩
  | 82 => ⟨S_, .i32⟩
  | 83 => ⟨S_, .i1⟩
  | 84 => ⟨S_, .i32⟩
  | 85 => ⟨S_, .i32⟩
  | 86 => ⟨S_, .i32⟩
  | 87 => ⟨S1, .i32⟩
  | 88 => ⟨S50x1000x128, .f32⟩
  | 89 => ⟨S_, .i32⟩
  | 90 => ⟨S_, .i1⟩
  | 91 => ⟨S_, .i32⟩
  | 92 => ⟨S_, .i32⟩
  | 93 => ⟨S_, .i32⟩
  | 94 => ⟨S1, .i32⟩
  | 95 => ⟨S50x1000, .f32⟩
  | 96 => ⟨S_, .i32⟩
  | 97 => ⟨S_, .i1⟩
  | 98 => ⟨S_, .i32⟩
  | 99 => ⟨S_, .i32⟩
  | 100 => ⟨S_, .i32⟩
  | 101 => ⟨S1, .i32⟩
  | 102 => ⟨S50x1000, .f32⟩
  | 103 => ⟨S_, .i32⟩
  | 104 => ⟨S_, .i1⟩
  | 105 => ⟨S_, .i32⟩
  | 106 => ⟨S_, .i32⟩
  | 107 => ⟨S_, .i32⟩
  | 108 => ⟨S1, .i32⟩
  | 109 => ⟨S50x1000x128, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_c_6 : Ref sig .tc := ⟨.hbm, 31, rfl⟩
abbrev main_v15 : Ref sig .tc := ⟨.hbm, 32, rfl⟩
abbrev main_v16 : Ref sig .tc := ⟨.hbm, 33, rfl⟩
abbrev main_c_7 : Ref sig .tc := ⟨.hbm, 34, rfl⟩
abbrev main_c_8 : Ref sig .tc := ⟨.hbm, 35, rfl⟩
abbrev main_v17 : Ref sig .tc := ⟨.hbm, 36, rfl⟩
abbrev main_c_9 : Ref sig .tc := ⟨.hbm, 37, rfl⟩
abbrev main_c_10 : Ref sig .tc := ⟨.hbm, 38, rfl⟩
abbrev main_v18 : Ref sig .tc := ⟨.hbm, 39, rfl⟩
abbrev main_c_11 : Ref sig .tc := ⟨.hbm, 40, rfl⟩
abbrev main_v19 : Ref sig .tc := ⟨.hbm, 41, rfl⟩
abbrev main_c_12 : Ref sig .tc := ⟨.hbm, 42, rfl⟩
abbrev main_c_13 : Ref sig .tc := ⟨.hbm, 43, rfl⟩
abbrev main_v20 : Ref sig .tc := ⟨.hbm, 44, rfl⟩
abbrev main_c_14 : Ref sig .tc := ⟨.hbm, 45, rfl⟩
abbrev main_c_15 : Ref sig .tc := ⟨.hbm, 46, rfl⟩
abbrev main_v21 : Ref sig .tc := ⟨.hbm, 47, rfl⟩
abbrev main_c_16 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_17 : Ref sig .tc := ⟨.hbm, 52, rfl⟩
abbrev main_v25 : Ref sig .tc := ⟨.hbm, 53, rfl⟩
abbrev main_c_18 : Ref sig .tc := ⟨.hbm, 54, rfl⟩
abbrev main_v26 : Ref sig .tc := ⟨.hbm, 55, rfl⟩
abbrev main_v27 : Ref sig .tc := ⟨.hbm, 56, rfl⟩
abbrev main_c_19 : Ref sig .tc := ⟨.hbm, 57, rfl⟩
abbrev main_c_20 : Ref sig .tc := ⟨.hbm, 58, rfl⟩
abbrev main_v28 : Ref sig .tc := ⟨.hbm, 59, rfl⟩
abbrev main_c_21 : Ref sig .tc := ⟨.hbm, 60, rfl⟩
abbrev main_c_22 : Ref sig .tc := ⟨.hbm, 61, rfl⟩
abbrev main_v29 : Ref sig .tc := ⟨.hbm, 62, rfl⟩
abbrev main_c_23 : Ref sig .tc := ⟨.hbm, 63, rfl⟩
abbrev main_v30 : Ref sig .tc := ⟨.hbm, 64, rfl⟩
abbrev main_c_24 : Ref sig .tc := ⟨.hbm, 65, rfl⟩
abbrev main_c_25 : Ref sig .tc := ⟨.hbm, 66, rfl⟩
abbrev main_v31 : Ref sig .tc := ⟨.hbm, 67, rfl⟩
abbrev main_c_26 : Ref sig .tc := ⟨.hbm, 68, rfl⟩
abbrev main_c_27 : Ref sig .tc := ⟨.hbm, 69, rfl⟩
abbrev main_v32 : Ref sig .tc := ⟨.hbm, 70, rfl⟩
abbrev main_c_28 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_c_29 : Ref sig .tc := ⟨.hbm, 75, rfl⟩
abbrev main_v36 : Ref sig .tc := ⟨.hbm, 76, rfl⟩
abbrev main_c_30 : Ref sig .tc := ⟨.hbm, 77, rfl⟩
abbrev main_v37 : Ref sig .tc := ⟨.hbm, 78, rfl⟩
abbrev main_v38 : Ref sig .tc := ⟨.hbm, 79, rfl⟩
abbrev main_c_31 : Ref sig .tc := ⟨.hbm, 80, rfl⟩
abbrev main_c_32 : Ref sig .tc := ⟨.hbm, 81, rfl⟩
abbrev main_v39 : Ref sig .tc := ⟨.hbm, 82, rfl⟩
abbrev main_c_33 : Ref sig .tc := ⟨.hbm, 83, rfl⟩
abbrev main_c_34 : Ref sig .tc := ⟨.hbm, 84, rfl⟩
abbrev main_v40 : Ref sig .tc := ⟨.hbm, 85, rfl⟩
abbrev main_c_35 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_c_36 : Ref sig .tc := ⟨.hbm, 90, rfl⟩
abbrev main_v44 : Ref sig .tc := ⟨.hbm, 91, rfl⟩
abbrev main_c_37 : Ref sig .tc := ⟨.hbm, 92, rfl⟩
abbrev main_v45 : Ref sig .tc := ⟨.hbm, 93, rfl⟩
abbrev main_v46 : Ref sig .tc := ⟨.hbm, 94, rfl⟩
abbrev main_c_38 : Ref sig .tc := ⟨.hbm, 95, rfl⟩
abbrev main_c_39 : Ref sig .tc := ⟨.hbm, 96, rfl⟩
abbrev main_v47 : Ref sig .tc := ⟨.hbm, 97, rfl⟩
abbrev main_c_40 : Ref sig .tc := ⟨.hbm, 98, rfl⟩
abbrev main_c_41 : Ref sig .tc := ⟨.hbm, 99, rfl⟩
abbrev main_v48 : Ref sig .tc := ⟨.hbm, 100, rfl⟩
abbrev main_c_42 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_cst_43 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_44 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_cst_45 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_cst_46 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_call0_v0 : Ref sig .tc := ⟨.hbm, 136, rfl⟩
abbrev main_v79 : Ref sig .tc := ⟨.hbm, 137, rfl⟩
abbrev main_v80 : Ref sig .tc := ⟨.hbm, 138, rfl⟩
abbrev main_call1_v0 : Ref sig .tc := ⟨.hbm, 139, rfl⟩
abbrev main_v81 : Ref sig .tc := ⟨.hbm, 140, rfl⟩
abbrev main_v82 : Ref sig .tc := ⟨.hbm, 141, rfl⟩
abbrev main_cst_47 : Ref sig .tc := ⟨.hbm, 142, rfl⟩
abbrev main_v83 : Ref sig .tc := ⟨.hbm, 143, rfl⟩
abbrev main_v84 : Ref sig .tc := ⟨.hbm, 144, rfl⟩
abbrev main_cst_48 : Ref sig .tc := ⟨.hbm, 145, rfl⟩
abbrev main_call3_v0 : Ref sig .tc := ⟨.hbm, 146, rfl⟩
abbrev main_call3_v1 : Ref sig .tc := ⟨.hbm, 147, rfl⟩
abbrev main_v85 : Ref sig .tc := ⟨.hbm, 148, rfl⟩
abbrev main_v86 : Ref sig .tc := ⟨.hbm, 149, rfl⟩
abbrev main_call4_v0 : Ref sig .tc := ⟨.hbm, 150, rfl⟩
abbrev main_v87 : Ref sig .tc := ⟨.hbm, 151, rfl⟩
abbrev main_v88 : Ref sig .tc := ⟨.hbm, 152, rfl⟩
abbrev main_call5_v0 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_cst_49 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_cst_50 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_cst_51 : Ref sig .tc := ⟨.hbm, 170, rfl⟩
abbrev main_call8_v0 : Ref sig .tc := ⟨.hbm, 171, rfl⟩
abbrev main_call8_v1 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_c_52 : Ref sig .tc := ⟨.hbm, 178, rfl⟩
abbrev main_v108 : Ref sig .tc := ⟨.hbm, 179, rfl⟩
abbrev main_c_53 : Ref sig .tc := ⟨.hbm, 180, rfl⟩
abbrev main_v109 : Ref sig .tc := ⟨.hbm, 181, rfl⟩
abbrev main_v110 : Ref sig .tc := ⟨.hbm, 182, rfl⟩
abbrev main_c_54 : Ref sig .tc := ⟨.hbm, 183, rfl⟩
abbrev main_c_55 : Ref sig .tc := ⟨.hbm, 184, rfl⟩
abbrev main_v111 : Ref sig .tc := ⟨.hbm, 185, rfl⟩
abbrev main_c_56 : Ref sig .tc := ⟨.hbm, 186, rfl⟩
abbrev main_c_57 : Ref sig .tc := ⟨.hbm, 187, rfl⟩
abbrev main_v112 : Ref sig .tc := ⟨.hbm, 188, rfl⟩
abbrev main_c_58 : Ref sig .tc := ⟨.hbm, 189, rfl⟩
abbrev main_v113 : Ref sig .tc := ⟨.hbm, 190, rfl⟩
abbrev main_c_59 : Ref sig .tc := ⟨.hbm, 191, rfl⟩
abbrev main_c_60 : Ref sig .tc := ⟨.hbm, 192, rfl⟩
abbrev main_v114 : Ref sig .tc := ⟨.hbm, 193, rfl⟩
abbrev main_c_61 : Ref sig .tc := ⟨.hbm, 194, rfl⟩
abbrev main_c_62 : Ref sig .tc := ⟨.hbm, 195, rfl⟩
abbrev main_v115 : Ref sig .tc := ⟨.hbm, 196, rfl⟩
abbrev main_c_63 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_call9_v0 : Ref sig .tc := ⟨.hbm, 201, rfl⟩
abbrev main_v119 : Ref sig .tc := ⟨.hbm, 202, rfl⟩
abbrev main_c_64 : Ref sig .tc := ⟨.hbm, 203, rfl⟩
abbrev main_v120 : Ref sig .tc := ⟨.hbm, 204, rfl⟩
abbrev main_c_65 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_c_66 : Ref sig .tc := ⟨.hbm, 210, rfl⟩
abbrev main_v125 : Ref sig .tc := ⟨.hbm, 211, rfl⟩
abbrev main_c_67 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_c_68 : Ref sig .tc := ⟨.hbm, 217, rfl⟩
abbrev main_v130 : Ref sig .tc := ⟨.hbm, 218, rfl⟩
abbrev main_c_69 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_c_70 : Ref sig .tc := ⟨.hbm, 224, rfl⟩
abbrev main_v135 : Ref sig .tc := ⟨.hbm, 225, rfl⟩
abbrev main_c_71 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_c_72 : Ref sig .tc := ⟨.hbm, 231, rfl⟩
abbrev main_v140 : Ref sig .tc := ⟨.hbm, 232, rfl⟩
abbrev main_c_73 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩

abbrev nD : Nat := 1
abbrev τ : Topo := Topo.v7x

variable {F : FTy → Type} [FloatOps F]
-- ==== Proof.Ideal.Body0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Kit

@[expose] public section

noncomputable section

namespace Cert.KernelIdeal.Upd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first 128 columns of the wide accumulator. -/
abbrev lo (s : Vec F S1000x256 .f32) : Vec F S1000x128 .f32 := VecWindow.window s ![0, 0] S1000x128.size (by decide)

/-- The last 128 columns of the wide accumulator. -/
abbrev hi (s : Vec F S1000x256 .f32) : Vec F S1000x128 .f32 := VecWindow.window s ![0, 128] S1000x128.size (by decide)

/-- A load of the first 128 columns reads them off what the view reads. -/
theorem rd_lo (v : View sig .tc .vmem S1000x256 .f32) (f : v.ty.Contents (Elt F)) (inb) :
    v.readAt (Elt F) (Rect.unit (s := S1000x256) ![0, 0] S1000x128.size inb).toLoadRect f = lo (v.read (Elt F) f) := rfl

/-- A load of the last 128 columns reads them off what the view reads. -/
theorem rd_hi (v : View sig .tc .vmem S1000x256 .f32) (f : v.ty.Contents (Elt F)) (inb) :
    v.readAt (Elt F) (Rect.unit (s := S1000x256) ![0, 128] S1000x128.size inb).toLoadRect f = hi (v.read (Elt F) f) := rfl

/-- A load of a whole buffer, its sizes 1000, 128 written out, reads what the view reads. -/
theorem rd_a (v : View sig .tc .vmem S1000x128 .f32) (f : v.ty.Contents (Elt F)) (inb) :
    v.readAt (Elt F) (Rect.unit ![0, 0] ![1000, 128] inb).toLoadRect f = v.read (Elt F) f := View.readAt_full v f inb

/-- A load of a whole buffer, its sizes 1024, 128 written out, reads what the view reads. -/
theorem rd_b (v : View sig .tc .vmem S1024x128 .f32) (f : v.ty.Contents (Elt F)) (inb) :
    v.readAt (Elt F) (Rect.unit ![0, 0] ![1024, 128] inb).toLoadRect f = v.read (Elt F) f := View.readAt_full v f inb

/-- A load of a whole buffer, its sizes 1, 1, 1024 written out, reads what the view reads. -/
theorem rd_c (v : View sig .tc .vmem S1x1x1024 .i16) (f : v.ty.Contents (Elt F)) (inb) :
    v.readAt (Elt F) (Rect.unit ![0, 0, 0] ![1, 1, 1024] inb).toLoadRect f = v.read (Elt F) f := View.readAt_full v f inb

/-- A load of a whole buffer, its sizes 1000, 256 written out, reads what the view reads. -/
theorem rd_d (v : View sig .tc .vmem S1000x256 .f32) (f : v.ty.Contents (Elt F)) (inb) :
    v.readAt (Elt F) (Rect.unit ![0, 0] ![1000, 256] inb).toLoadRect f = v.read (Elt F) f := View.readAt_full v f inb

/-- A load of a whole buffer, its sizes 1000, 1 written out, reads what the view reads. -/
theorem rd_e (v : View sig .tc .vmem S1000x1 .f32) (f : v.ty.Contents (Elt F)) (inb) :
    v.readAt (Elt F) (Rect.unit ![0, 0] ![1000, 1] inb).toLoadRect f = v.read (Elt F) f := View.readAt_full v f inb

/-- A store of the whole wide accumulator, its sizes written out, leaves its payload. -/
theorem wr_d (v : View sig .tc .vmem S1000x256 .f32) (f : v.ty.Contents (Elt F)) (inb) (w : Vec F S1000x256 .f32) (L) :
    v.read (Elt F) (v.writes (Elt F) f (⟨Rect.unit ![0, 0] ![1000, 256] inb, w⟩ :: L)) = w := View.read_writes_full v f inb w L

/-- A store of the whole count column, its sizes written out, leaves its payload. -/
theorem wr_e (v : View sig .tc .vmem S1000x1 .f32) (f : v.ty.Contents (Elt F)) (inb) (w : Vec F S1000x1 .f32) (L) :
    v.read (Elt F) (v.writes (Elt F) f (⟨Rect.unit ![0, 0] ![1000, 1] inb, w⟩ :: L)) = w := View.read_writes_full v f inb w L

/-- A load of the first 128 columns, its sizes written out. -/
theorem rd_lo' (v : View sig .tc .vmem S1000x256 .f32) (f : v.ty.Contents (Elt F)) (inb) :
    v.readAt (Elt F) (Rect.unit ![0, 0] ![1000, 128] inb).toLoadRect f = lo (v.read (Elt F) f) := rfl

/-- A load of the last 128 columns, its sizes written out. -/
theorem rd_hi' (v : View sig .tc .vmem S1000x256 .f32) (f : v.ty.Contents (Elt F)) (inb) :
    v.readAt (Elt F) (Rect.unit ![0, 128] ![1000, 128] inb).toLoadRect f = hi (v.read (Elt F) f) := rfl

/-- The prototype rows the last point writes, of the row sums, the counts, and the old sums, prototype counts, steps and prototypes. -/
abbrev proto (s : Vec F S1000x128 .f32) (n : Vec F S1000x1 .f32) (ps : Vec F S1000x128 .f32) (pc pt : Vec F S1000x1 .f32) (dp : Vec F S1000x128 .f32) : Vec F S1000x128 .f32 :=
  k0_pay8 n (k0_pay9 pc) (k0_pay10 pt) (k0_pay11 pc) (k0_pay12 n) (k0_pay13 s n ps pc) (k0_pay15 pc) dp

/-- The count column the last point writes. -/
abbrev cntOut (n pc : Vec F S1000x1 .f32) : Vec F S1000x1 .f32 := k0_pay6 n (k0_pay9 pc) (k0_pay11 pc) (k0_pay12 n) (k0_pay15 pc)

/-- The step column the last point writes. -/
abbrev stepOut (n pc pt : Vec F S1000x1 .f32) : Vec F S1000x1 .f32 := k0_pay7 (k0_pay10 pt) (k0_pay11 pc) (k0_pay12 n)

/-- The first grid point: the branch that clears the accumulators is taken. -/
abbrev first (i : grid0.Coords) : Prop := (Scalar.cmpi .ne (Scalar.extui (Scalar.cmpi .eq (BitVec.ofNat 32 (i 0).val) 0#32)) 0#32) = 1#1

/-- The last grid point: the branch that writes the results is taken. -/
abbrev last (i : grid0.Coords) : Prop := k0_cond2 i = 1#1

set_option maxHeartbeats 2000000 in
/-- A point that is neither first nor last adds its block to the two accumulators. -/
theorem run_mid (c : Dev nD) (i : grid0.Coords) (arg1 : Memref sig .tc .vmem S1x1x1024 .i16) (harg1 : arg1.IsWhole) (arg2 : Memref sig .tc .vmem S1024x128 .f32) (harg2 : arg2.IsWhole) (arg3 : Memref sig .tc .vmem S1000x128 .f32) (harg3 : arg3.IsWhole) (arg4 : Memref sig .tc .vmem S1000x128 .f32) (harg4 : arg4.IsWhole) (arg5 : Memref sig .tc .vmem S1000x1 .f32) (harg5 : arg5.IsWhole) (arg6 : Memref sig .tc .vmem S1000x1 .f32) (harg6 : arg6.IsWhole) (arg7 : Memref sig .tc .vmem S1000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x1 .f32) (harg10 : arg10.IsWhole) (arg11 : Memref sig .tc .vmem S1000x1 .f32) (harg11 : arg11.IsWhole) (arg12 : Memref sig .tc .vmem S1000x128 .f32) (harg12 : arg12.IsWhole) (arg13 : Memref sig .tc .vmem S1000x256 .f32) (harg13 : arg13.IsWhole) (arg14 : Memref sig .tc .vmem S1000x1 .f32) (harg14 : arg14.IsWhole) (hc0 : ¬first i) (hc1 : ¬last i)
    (x0 : Vec F S1x1x1024 .i16) (x1 : Vec F S1024x128 .f32) (s : Vec F S1000x256 .f32) (n : Vec F S1000x1 .f32) (E : Set ℕ) (K : PUnit → sProp 𝕄) :
    iprop(owns (c : Thread nD τ) arg1 fullShare x0 ∗ owns (c : Thread nD τ) arg2 fullShare x1 ∗ owns (c : Thread nD τ) arg13 fullShare s ∗ owns (c : Thread nD τ) arg14 fullShare n
        ∗ (iprop(owns (c : Thread nD τ) arg1 fullShare x0 ∗ owns (c : Thread nD τ) arg2 fullShare x1 ∗ owns (c : Thread nD τ) arg13 fullShare (k0_pay4 x1 x0 s) ∗ owns (c : Thread nD τ) arg14 fullShare (k0_pay5 x0 n)) -∗ K ⟨⟩))
      ⊢ wp frame (wpE (defs₀ (F := F)) Variants.none c none) E (cc0__update_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__update_kernel_eq_skeleton]; unfold cc0__update_kernel_skel
  unfold owns
  iintro ⟨⟨%f1, %hf1, H1⟩, ⟨%f2, %hf2, H2⟩, ⟨%f13, %hf13, H13⟩, ⟨%f14, %hf14, H14⟩, Hk⟩
  obtain rfl := harg1.eq_unread hf1; obtain rfl := harg2.eq_unread hf2; obtain rfl := harg13.eq_unread hf13; obtain rfl := harg14.eq_unread hf14
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H13]
  · iexists _; isplitr
    swap; · iexact H13
    ipureintro
    rw [View.read_writes_full]; simp only [View.readCov, wr_d, wr_e, rd_a, rd_b, rd_c, rd_d, rd_e, View.readAt_full, View.read_writes_full, Memref.IsWhole.read_unread]
  iexists _; isplitr
  swap; · iexact H14
  ipureintro
  rw [View.read_writes_full]; simp only [View.readCov, wr_d, wr_e, rd_a, rd_b, rd_c, rd_d, rd_e, View.readAt_full, View.read_writes_full, Memref.IsWhole.read_unread]

set_option maxHeartbeats 2000000 in
/-- The first point clears the two accumulators and adds its block. -/
theorem run_first (c : Dev nD) (i : grid0.Coords) (arg1 : Memref sig .tc .vmem S1x1x1024 .i16) (harg1 : arg1.IsWhole) (arg2 : Memref sig .tc .vmem S1024x128 .f32) (harg2 : arg2.IsWhole) (arg3 : Memref sig .tc .vmem S1000x128 .f32) (harg3 : arg3.IsWhole) (arg4 : Memref sig .tc .vmem S1000x128 .f32) (harg4 : arg4.IsWhole) (arg5 : Memref sig .tc .vmem S1000x1 .f32) (harg5 : arg5.IsWhole) (arg6 : Memref sig .tc .vmem S1000x1 .f32) (harg6 : arg6.IsWhole) (arg7 : Memref sig .tc .vmem S1000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x1 .f32) (harg10 : arg10.IsWhole) (arg11 : Memref sig .tc .vmem S1000x1 .f32) (harg11 : arg11.IsWhole) (arg12 : Memref sig .tc .vmem S1000x128 .f32) (harg12 : arg12.IsWhole) (arg13 : Memref sig .tc .vmem S1000x256 .f32) (harg13 : arg13.IsWhole) (arg14 : Memref sig .tc .vmem S1000x1 .f32) (harg14 : arg14.IsWhole) (hc0 : first i) (hc1 : ¬last i)
    (x0 : Vec F S1x1x1024 .i16) (x1 : Vec F S1024x128 .f32) (s : Vec F S1000x256 .f32) (n : Vec F S1000x1 .f32) (E : Set ℕ) (K : PUnit → sProp 𝕄) :
    iprop(owns (c : Thread nD τ) arg1 fullShare x0 ∗ owns (c : Thread nD τ) arg2 fullShare x1 ∗ owns (c : Thread nD τ) arg13 fullShare s ∗ owns (c : Thread nD τ) arg14 fullShare n
        ∗ (iprop(owns (c : Thread nD τ) arg1 fullShare x0 ∗ owns (c : Thread nD τ) arg2 fullShare x1 ∗ owns (c : Thread nD τ) arg13 fullShare (k0_pay4 x1 x0 k0_pay1) ∗ owns (c : Thread nD τ) arg14 fullShare (k0_pay5 x0 k0_pay2)) -∗ K ⟨⟩))
      ⊢ wp frame (wpE (defs₀ (F := F)) Variants.none c none) E (cc0__update_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__update_kernel_eq_skeleton]; unfold cc0__update_kernel_skel
  unfold owns
  iintro ⟨⟨%f1, %hf1, H1⟩, ⟨%f2, %hf2, H2⟩, ⟨%f13, %hf13, H13⟩, ⟨%f14, %hf14, H14⟩, Hk⟩
  obtain rfl := harg1.eq_unread hf1; obtain rfl := harg2.eq_unread hf2; obtain rfl := harg13.eq_unread hf13; obtain rfl := harg14.eq_unread hf14
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H13]
  · iexists _; isplitr
    swap; · iexact H13
    ipureintro
    rw [View.read_writes_full]; delta run_first.sl.v15 run_first.sl.v21 run_first.sl.H13_1 run_first.sl.H14_1; simp only [View.readCov, wr_d, wr_e, rd_a, rd_b, rd_c, rd_d, rd_e, View.readAt_full, View.read_writes_full, Memref.IsWhole.read_unread]
  iexists _; isplitr
  swap; · iexact H14
  ipureintro
  rw [View.read_writes_full]; delta run_first.sl.v15 run_first.sl.v21 run_first.sl.H13_1 run_first.sl.H14_1; simp only [View.readCov, wr_d, wr_e, rd_a, rd_b, rd_c, rd_d, rd_e, View.readAt_full, View.read_writes_full, Memref.IsWhole.read_unread]

set_option maxHeartbeats 2000000 in
/-- The last point adds its block to the two accumulators and writes the five results from them. -/
theorem run_last (c : Dev nD) (i : grid0.Coords) (arg1 : Memref sig .tc .vmem S1x1x1024 .i16) (harg1 : arg1.IsWhole) (arg2 : Memref sig .tc .vmem S1024x128 .f32) (harg2 : arg2.IsWhole) (arg3 : Memref sig .tc .vmem S1000x128 .f32) (harg3 : arg3.IsWhole) (arg4 : Memref sig .tc .vmem S1000x128 .f32) (harg4 : arg4.IsWhole) (arg5 : Memref sig .tc .vmem S1000x1 .f32) (harg5 : arg5.IsWhole) (arg6 : Memref sig .tc .vmem S1000x1 .f32) (harg6 : arg6.IsWhole) (arg7 : Memref sig .tc .vmem S1000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x1 .f32) (harg10 : arg10.IsWhole) (arg11 : Memref sig .tc .vmem S1000x1 .f32) (harg11 : arg11.IsWhole) (arg12 : Memref sig .tc .vmem S1000x128 .f32) (harg12 : arg12.IsWhole) (arg13 : Memref sig .tc .vmem S1000x256 .f32) (harg13 : arg13.IsWhole) (arg14 : Memref sig .tc .vmem S1000x1 .f32) (harg14 : arg14.IsWhole) (hc0 : ¬first i) (hc1 : last i)
    (x0 : Vec F S1x1x1024 .i16) (x1 : Vec F S1024x128 .f32) (s : Vec F S1000x256 .f32) (n : Vec F S1000x1 .f32) (ps pq dp y0 y1 y4 : Vec F S1000x128 .f32) (pc pt y2 y3 : Vec F S1000x1 .f32) (E : Set ℕ) (K : PUnit → sProp 𝕄) :
    iprop(owns (c : Thread nD τ) arg1 fullShare x0 ∗ owns (c : Thread nD τ) arg2 fullShare x1 ∗ owns (c : Thread nD τ) arg3 fullShare ps ∗ owns (c : Thread nD τ) arg4 fullShare pq ∗ owns (c : Thread nD τ) arg5 fullShare pc ∗ owns (c : Thread nD τ) arg6 fullShare pt ∗ owns (c : Thread nD τ) arg7 fullShare dp ∗ owns (c : Thread nD τ) arg8 fullShare y0 ∗ owns (c : Thread nD τ) arg9 fullShare y1 ∗ owns (c : Thread nD τ) arg10 fullShare y2 ∗ owns (c : Thread nD τ) arg11 fullShare y3 ∗ owns (c : Thread nD τ) arg12 fullShare y4 ∗ owns (c : Thread nD τ) arg13 fullShare s ∗ owns (c : Thread nD τ) arg14 fullShare n
        ∗ (iprop(owns (c : Thread nD τ) arg1 fullShare x0 ∗ owns (c : Thread nD τ) arg2 fullShare x1 ∗ owns (c : Thread nD τ) arg3 fullShare ps ∗ owns (c : Thread nD τ) arg4 fullShare pq ∗ owns (c : Thread nD τ) arg5 fullShare pc ∗ owns (c : Thread nD τ) arg6 fullShare pt ∗ owns (c : Thread nD τ) arg7 fullShare dp ∗ owns (c : Thread nD τ) arg8 fullShare (k0_pay13 (lo (k0_pay4 x1 x0 s)) (k0_pay5 x0 n) ps pc) ∗ owns (c : Thread nD τ) arg9 fullShare (k0_pay14 (hi (k0_pay4 x1 x0 s)) (k0_pay5 x0 n) pq pc) ∗ owns (c : Thread nD τ) arg10 fullShare (cntOut (k0_pay5 x0 n) pc) ∗ owns (c : Thread nD τ) arg11 fullShare (stepOut (k0_pay5 x0 n) pc pt) ∗ owns (c : Thread nD τ) arg12 fullShare (proto (lo (k0_pay4 x1 x0 s)) (k0_pay5 x0 n) ps pc pt dp) ∗ owns (c : Thread nD τ) arg13 fullShare (k0_pay4 x1 x0 s) ∗ owns (c : Thread nD τ) arg14 fullShare (k0_pay5 x0 n)) -∗ K ⟨⟩))
      ⊢ wp frame (wpE (defs₀ (F := F)) Variants.none c none) E (cc0__update_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__update_kernel_eq_skeleton]; unfold cc0__update_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    try rw [View.read_writes_full]
    delta run_last.sl.H13_1 run_last.sl.H14_1 run_last.sl.v33 run_last.sl.v34 run_last.sl.v35 run_last.sl.r run_last.sl.r_1 run_last.sl.r_2 run_last.sl.r_3 run_last.sl.r_4 run_last.sl.r_5 run_last.sl.r_6
    try rw [View.read_writes_full]
    try simp only [View.readCov, rd_lo, rd_lo', rd_hi', wr_d, wr_e, rd_hi, rd_a, rd_b, rd_c, rd_d, rd_e, View.readAt_full, View.read_writes_full, Memref.IsWhole.read_unread]
  isplitl [H9]
  · iexists _; isplitr
    swap; · iexact H9
    ipureintro
    try rw [View.read_writes_full]
    delta run_last.sl.H13_1 run_last.sl.H14_1 run_last.sl.v33 run_last.sl.v34 run_last.sl.v35 run_last.sl.r run_last.sl.r_1 run_last.sl.r_2 run_last.sl.r_3 run_last.sl.r_4 run_last.sl.r_5 run_last.sl.r_6
    try rw [View.read_writes_full]
    try simp only [View.readCov, rd_lo, rd_lo', rd_hi', wr_d, wr_e, rd_hi, rd_a, rd_b, rd_c, rd_d, rd_e, View.readAt_full, View.read_writes_full, Memref.IsWhole.read_unread]
  isplitl [H10]
  · iexists _; isplitr
    swap; · iexact H10
    ipureintro
    try rw [View.read_writes_full]
    delta run_last.sl.H13_1 run_last.sl.H14_1 run_last.sl.v33 run_last.sl.v34 run_last.sl.v35 run_last.sl.r run_last.sl.r_1 run_last.sl.r_2 run_last.sl.r_3 run_last.sl.r_4 run_last.sl.r_5 run_last.sl.r_6
    try rw [View.read_writes_full]
    try simp only [View.readCov, rd_lo, rd_lo', rd_hi', wr_d, wr_e, rd_hi, rd_a, rd_b, rd_c, rd_d, rd_e, View.readAt_full, View.read_writes_full, Memref.IsWhole.read_unread]
  isplitl [H11]
  · iexists _; isplitr
    swap; · iexact H11
    ipureintro
    try rw [View.read_writes_full]
    delta run_last.sl.H13_1 run_last.sl.H14_1 run_last.sl.v33 run_last.sl.v34 run_last.sl.v35 run_last.sl.r run_last.sl.r_1 run_last.sl.r_2 run_last.sl.r_3 run_last.sl.r_4 run_last.sl.r_5 run_last.sl.r_6
    try rw [View.read_writes_full]
    try simp only [View.readCov, rd_lo, rd_lo', rd_hi', wr_d, wr_e, rd_hi, rd_a, rd_b, rd_c, rd_d, rd_e, View.readAt_full, View.read_writes_full, Memref.IsWhole.read_unread]
  isplitl [H12]
  · iexists _; isplitr
    swap; · iexact H12
    ipureintro
    try rw [View.read_writes_full]
    delta run_last.sl.H13_1 run_last.sl.H14_1 run_last.sl.v33 run_last.sl.v34 run_last.sl.v35 run_last.sl.r run_last.sl.r_1 run_last.sl.r_2 run_last.sl.r_3 run_last.sl.r_4 run_last.sl.r_5 run_last.sl.r_6
    try rw [View.read_writes_full]
    try simp only [View.readCov, rd_lo, rd_lo', rd_hi', wr_d, wr_e, rd_hi, rd_a, rd_b, rd_c, rd_d, rd_e, View.readAt_full, View.read_writes_full, Memref.IsWhole.read_unread]
  isplitl [H13]
  · iexists _; isplitr
    swap; · iexact H13
    ipureintro
    try rw [View.read_writes_full]
    delta run_last.sl.H13_1 run_last.sl.H14_1 run_last.sl.v33 run_last.sl.v34 run_last.sl.v35 run_last.sl.r run_last.sl.r_1 run_last.sl.r_2 run_last.sl.r_3 run_last.sl.r_4 run_last.sl.r_5 run_last.sl.r_6
    try rw [View.read_writes_full]
    try simp only [View.readCov, rd_lo, rd_lo', rd_hi', wr_d, wr_e, rd_hi, rd_a, rd_b, rd_c, rd_d, rd_e, View.readAt_full, View.read_writes_full, Memref.IsWhole.read_unread]
  iexists _; isplitr
  swap; · iexact H14
  ipureintro
  try rw [View.read_writes_full]
  delta run_last.sl.H13_1 run_last.sl.H14_1 run_last.sl.v33 run_last.sl.v34 run_last.sl.v35 run_last.sl.r run_last.sl.r_1 run_last.sl.r_2 run_last.sl.r_3 run_last.sl.r_4 run_last.sl.r_5 run_last.sl.r_6
  try rw [View.read_writes_full]
  try simp only [View.readCov, rd_lo, rd_lo', rd_hi', wr_d, wr_e, rd_hi, rd_a, rd_b, rd_c, rd_d, rd_e, View.readAt_full, View.read_writes_full, Memref.IsWhole.read_unread]

end Cert.KernelIdeal.Upd

end
-- ==== Proof.Ideal.Region0.lean ====
module

public import proofs.«01_k».proof.Proof.Ideal.Body0

@[expose] public section

noncomputable section

namespace Cert.KernelIdeal.Upd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Where the two branches are taken -/

/-- The clearing branch is taken at point 0 only. -/
theorem first_iff : ∀ t : Fin cfg0.N, first (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val % 16 = 0)

/-- The writing branch is taken at point 15 only. -/
theorem last_iff : ∀ t : Fin cfg0.N, last (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [last, k0_cond2, e0]
    word_cmp
   : ∀ t : Fin grid0.N, last (grid0.coords t) ↔ t.val % 16 = 15)

/-- Before the last point the outputs are idle and not written back. -/
theorem idle_out : ∀ t : Fin cfg0.N, ¬last (grid0.coords t) → ∀ w : Fin 12, 7 ≤ w.val →
    cfg0.idle w (grid0.coords t) = true ∧ (cfg0.win w).flush t = false := by decide +kernel

/-- At the last point the outputs are live. -/
theorem live_out : ∀ t : Fin cfg0.N, last (grid0.coords t) → ∀ w : Fin 12, 7 ≤ w.val →
    cfg0.idle w (grid0.coords t) = false := by decide +kernel

/-! ## The values -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The wide accumulator after the first `k` points: the sums of the rows and of their squares. -/
def accS (c : Dev nD) : ℕ → Vec F S1000x256 .f32
  | 0 => k0_pay1
  | k + 1 => if h : k < cfg0.N then k0_pay4 (iblk V c 1 ⟨k, h⟩) (iblk V c 0 ⟨k, h⟩) (accS c k) else accS c k

/-- The count accumulator after the first `k` points. -/
def accN (c : Dev nD) : ℕ → Vec F S1000x1 .f32
  | 0 => k0_pay2
  | k + 1 => if h : k < cfg0.N then k0_pay5 (iblk V c 0 ⟨k, h⟩) (accN c k) else accN c k

theorem accS_succ (c : Dev nD) (t : Fin cfg0.N) : accS V c (t.val + 1) = k0_pay4 (iblk V c 1 t) (iblk V c 0 t) (accS V c t.val) := by
  rw [accS, dif_pos t.isLt]

theorem accN_succ (c : Dev nD) (t : Fin cfg0.N) : accN V c (t.val + 1) = k0_pay5 (iblk V c 0 t) (accN V c t.val) := by
  rw [accN, dif_pos t.isLt]

/-! ## The proof data -/

abbrev sc0 : Memref sig .tc .vmem S1000x256 .f32 := Memref.whole cc0_scratch0
abbrev sc1 : Memref sig .tc .vmem S1000x1 .f32 := Memref.whole cc0_scratch1

/-- The scoped buffers that the region neither stages nor accumulates in, and the generator register. -/
def restΦ (c : Dev nD) : sProp 𝕄 := iprop(((∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_stg0_0), ((c : Thread nD τ).loc cc1_stg0_0) ↦{fullShare} f)) ∗ ∃ r, prngReg c r)

/-- Before point `k` the accumulators hold the first `k` points' sums (anything before the first point). -/
def Φ0 (c : Dev nD) (k : ℕ) : sProp 𝕄 :=
  iprop(∃ s n, ⌜k ≠ 0 → s = accS V c k ∧ n = accN V c k⌝ ∗ owns (c : Thread nD τ) sc0 fullShare s ∗ owns (c : Thread nD τ) sc1 fullShare n ∗ restΦ c)

/-- The region's proof data, entered from `V`: the inputs' blocks, the outputs at what the last point writes, the accumulators between points. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => k0_pay13 (lo (accS V c (t.val + 1))) (accN V c (t.val + 1)) (iblk V c 2 t) (iblk V c 4 t)
    | ⟨8, _⟩ => k0_pay14 (hi (accS V c (t.val + 1))) (accN V c (t.val + 1)) (iblk V c 3 t) (iblk V c 4 t)
    | ⟨9, _⟩ => cntOut (accN V c (t.val + 1)) (iblk V c 4 t)
    | ⟨10, _⟩ => stepOut (accN V c (t.val + 1)) (iblk V c 4 t) (iblk V c 5 t)
    | ⟨11, _⟩ => proto (lo (accS V c (t.val + 1))) (accN V c (t.val + 1)) (iblk V c 2 t) (iblk V c 4 t) (iblk V c 5 t) (iblk V c 6 t)
  Φ t := Φ0 V c t.val
  q _ := fullShare
  owed _ := 0

theorem A0_eq (c : Dev nD) (w : Fin cfg0.W) : (dat0 V c).A w = V c (Pipeline.arrRef spec0 w) := by dsimp only [dat0]

theorem after0_0 (c : Dev nD) (t : Fin cfg0.N) : (dat0 V c).after 0 t = iblk V c 0 t := by dsimp only [dat0]
theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A0_eq]; try rfl) t d).trans
    (by unfold Dat.fetched Dat.blockOf iblk; rw [A0_eq]; try rfl)

theorem after0_1 (c : Dev nD) (t : Fin cfg0.N) : (dat0 V c).after 1 t = iblk V c 1 t := by dsimp only [dat0]
theorem before0_1 (c : Dev nD) (t : Fin cfg0.N) (d) : (dat0 V c).before 1 t d = iblk V c 1 t :=
  ((dat0 V c).before_in_eq_fetched 1 rfl (fun _ => rfl) (fun _ _ _ => rfl) (fun t => by rw [after0_1]; unfold Dat.blockOf iblk; rw [A0_eq]; try rfl) t d).trans
    (by unfold Dat.fetched Dat.blockOf iblk; rw [A0_eq]; try rfl)

theorem after0_2 (c : Dev nD) (t : Fin cfg0.N) : (dat0 V c).after 2 t = iblk V c 2 t := by dsimp only [dat0]
theorem before0_2 (c : Dev nD) (t : Fin cfg0.N) (d) : (dat0 V c).before 2 t d = iblk V c 2 t :=
  ((dat0 V c).before_in_eq_fetched 2 rfl (fun _ => rfl) (fun _ _ _ => rfl) (fun t => by rw [after0_2]; unfold Dat.blockOf iblk; rw [A0_eq]; try rfl) t d).trans
    (by unfold Dat.fetched Dat.blockOf iblk; rw [A0_eq]; try rfl)

theorem after0_3 (c : Dev nD) (t : Fin cfg0.N) : (dat0 V c).after 3 t = iblk V c 3 t := by dsimp only [dat0]
theorem before0_3 (c : Dev nD) (t : Fin cfg0.N) (d) : (dat0 V c).before 3 t d = iblk V c 3 t :=
  ((dat0 V c).before_in_eq_fetched 3 rfl (fun _ => rfl) (fun _ _ _ => rfl) (fun t => by rw [after0_3]; unfold Dat.blockOf iblk; rw [A0_eq]; try rfl) t d).trans
    (by unfold Dat.fetched Dat.blockOf iblk; rw [A0_eq]; try rfl)

theorem after0_4 (c : Dev nD) (t : Fin cfg0.N) : (dat0 V c).after 4 t = iblk V c 4 t := by dsimp only [dat0]
theorem before0_4 (c : Dev nD) (t : Fin cfg0.N) (d) : (dat0 V c).before 4 t d = iblk V c 4 t :=
  ((dat0 V c).before_in_eq_fetched 4 rfl (fun _ => rfl) (fun _ _ _ => rfl) (fun t => by rw [after0_4]; unfold Dat.blockOf iblk; rw [A0_eq]; try rfl) t d).trans
    (by unfold Dat.fetched Dat.blockOf iblk; rw [A0_eq]; try rfl)

theorem after0_5 (c : Dev nD) (t : Fin cfg0.N) : (dat0 V c).after 5 t = iblk V c 5 t := by dsimp only [dat0]
theorem before0_5 (c : Dev nD) (t : Fin cfg0.N) (d) : (dat0 V c).before 5 t d = iblk V c 5 t :=
  ((dat0 V c).before_in_eq_fetched 5 rfl (fun _ => rfl) (fun _ _ _ => rfl) (fun t => by rw [after0_5]; unfold Dat.blockOf iblk; rw [A0_eq]; try rfl) t d).trans
    (by unfold Dat.fetched Dat.blockOf iblk; rw [A0_eq]; try rfl)

theorem after0_6 (c : Dev nD) (t : Fin cfg0.N) : (dat0 V c).after 6 t = iblk V c 6 t := by dsimp only [dat0]
theorem before0_6 (c : Dev nD) (t : Fin cfg0.N) (d) : (dat0 V c).before 6 t d = iblk V c 6 t :=
  ((dat0 V c).before_in_eq_fetched 6 rfl (fun _ => rfl) (fun _ _ _ => rfl) (fun t => by rw [after0_6]; unfold Dat.blockOf iblk; rw [A0_eq]; try rfl) t d).trans
    (by unfold Dat.fetched Dat.blockOf iblk; rw [A0_eq]; try rfl)

theorem after0_7 (c : Dev nD) (t : Fin cfg0.N) : (dat0 V c).after 7 t = k0_pay13 (lo (accS V c (t.val + 1))) (accN V c (t.val + 1)) (iblk V c 2 t) (iblk V c 4 t) := by dsimp only [dat0]

theorem after0_8 (c : Dev nD) (t : Fin cfg0.N) : (dat0 V c).after 8 t = k0_pay14 (hi (accS V c (t.val + 1))) (accN V c (t.val + 1)) (iblk V c 3 t) (iblk V c 4 t) := by dsimp only [dat0]

theorem after0_9 (c : Dev nD) (t : Fin cfg0.N) : (dat0 V c).after 9 t = cntOut (accN V c (t.val + 1)) (iblk V c 4 t) := by dsimp only [dat0]

theorem after0_10 (c : Dev nD) (t : Fin cfg0.N) : (dat0 V c).after 10 t = stepOut (accN V c (t.val + 1)) (iblk V c 4 t) (iblk V c 5 t) := by dsimp only [dat0]

theorem after0_11 (c : Dev nD) (t : Fin cfg0.N) : (dat0 V c).after 11 t = proto (lo (accS V c (t.val + 1))) (accN V c (t.val + 1)) (iblk V c 2 t) (iblk V c 4 t) (iblk V c 5 t) (iblk V c 6 t) := by dsimp only [dat0]

theorem lv0_0 (c : Dev nD) (t : Fin cfg0.N) : (dat0 V c).leavesExact 0 t = owns (c : Thread nD τ) (st0_0 t) fullShare (iblk V c 0 t) := by
  unfold Dat.leavesExact; rw [show cfg0.idle 0 (grid0.coords t) = false from rfl, after0_0]

theorem lv0_1 (c : Dev nD) (t : Fin cfg0.N) : (dat0 V c).leavesExact 1 t = owns (c : Thread nD τ) (st0_1 t) fullShare (iblk V c 1 t) := by
  unfold Dat.leavesExact; rw [show cfg0.idle 1 (grid0.coords t) = false from rfl, after0_1]

theorem lv0_2 (c : Dev nD) (t : Fin cfg0.N) : (dat0 V c).leavesExact 2 t = owns (c : Thread nD τ) (st0_2 t) fullShare (iblk V c 2 t) := by
  unfold Dat.leavesExact; rw [show cfg0.idle 2 (grid0.coords t) = false from rfl, after0_2]

theorem lv0_3 (c : Dev nD) (t : Fin cfg0.N) : (dat0 V c).leavesExact 3 t = owns (c : Thread nD τ) (st0_3 t) fullShare (iblk V c 3 t) := by
  unfold Dat.leavesExact; rw [show cfg0.idle 3 (grid0.coords t) = false from rfl, after0_3]

theorem lv0_4 (c : Dev nD) (t : Fin cfg0.N) : (dat0 V c).leavesExact 4 t = owns (c : Thread nD τ) (st0_4 t) fullShare (iblk V c 4 t) := by
  unfold Dat.leavesExact; rw [show cfg0.idle 4 (grid0.coords t) = false from rfl, after0_4]

theorem lv0_5 (c : Dev nD) (t : Fin cfg0.N) : (dat0 V c).leavesExact 5 t = owns (c : Thread nD τ) (st0_5 t) fullShare (iblk V c 5 t) := by
  unfold Dat.leavesExact; rw [show cfg0.idle 5 (grid0.coords t) = false from rfl, after0_5]

theorem lv0_6 (c : Dev nD) (t : Fin cfg0.N) : (dat0 V c).leavesExact 6 t = owns (c : Thread nD τ) (st0_6 t) fullShare (iblk V c 6 t) := by
  unfold Dat.leavesExact; rw [show cfg0.idle 6 (grid0.coords t) = false from rfl, after0_6]

theorem lv0_7 (c : Dev nD) (t : Fin cfg0.N) (h : last (grid0.coords t)) : (dat0 V c).leavesExact 7 t = owns (c : Thread nD τ) (st0_7 t) fullShare ((dat0 V c).after 7 t) := by
  unfold Dat.leavesExact; rw [live_out t h 7 (by decide)]

theorem lv0_8 (c : Dev nD) (t : Fin cfg0.N) (h : last (grid0.coords t)) : (dat0 V c).leavesExact 8 t = owns (c : Thread nD τ) (st0_8 t) fullShare ((dat0 V c).after 8 t) := by
  unfold Dat.leavesExact; rw [live_out t h 8 (by decide)]

theorem lv0_9 (c : Dev nD) (t : Fin cfg0.N) (h : last (grid0.coords t)) : (dat0 V c).leavesExact 9 t = owns (c : Thread nD τ) (st0_9 t) fullShare ((dat0 V c).after 9 t) := by
  unfold Dat.leavesExact; rw [live_out t h 9 (by decide)]

theorem lv0_10 (c : Dev nD) (t : Fin cfg0.N) (h : last (grid0.coords t)) : (dat0 V c).leavesExact 10 t = owns (c : Thread nD τ) (st0_10 t) fullShare ((dat0 V c).after 10 t) := by
  unfold Dat.leavesExact; rw [live_out t h 10 (by decide)]

theorem lv0_11 (c : Dev nD) (t : Fin cfg0.N) (h : last (grid0.coords t)) : (dat0 V c).leavesExact 11 t = owns (c : Thread nD τ) (st0_11 t) fullShare ((dat0 V c).after 11 t) := by
  unfold Dat.leavesExact; rw [live_out t h 11 (by decide)]

/-! ## The body obligation -/

/-- What the body is called with at point `t`. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)) ∗ (∃ d, owns (c : Thread nD τ) (st0_3 t) fullShare ((dat0 V c).before 3 t d)) ∗ (∃ d, owns (c : Thread nD τ) (st0_4 t) fullShare ((dat0 V c).before 4 t d)) ∗ (∃ d, owns (c : Thread nD τ) (st0_5 t) fullShare ((dat0 V c).before 5 t d)) ∗ (∃ d, owns (c : Thread nD τ) (st0_6 t) fullShare ((dat0 V c).before 6 t d)) ∗ (∃ d, owns (c : Thread nD τ) (st0_7 t) fullShare ((dat0 V c).before 7 t d)) ∗ (∃ d, owns (c : Thread nD τ) (st0_8 t) fullShare ((dat0 V c).before 8 t d)) ∗ (∃ d, owns (c : Thread nD τ) (st0_9 t) fullShare ((dat0 V c).before 9 t d)) ∗ (∃ d, owns (c : Thread nD τ) (st0_10 t) fullShare ((dat0 V c).before 10 t d)) ∗ (∃ d, owns (c : Thread nD τ) (st0_11 t) fullShare ((dat0 V c).before 11 t d)))

/-- What the body returns at point `t`. -/
def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t ∗ (dat0 V c).leavesExact 9 t ∗ (dat0 V c).leavesExact 10 t ∗ (dat0 V c).leavesExact 11 t)

set_option maxHeartbeats 4000000 in
/-- The body at any point: the three cases' runs, the accumulators passed on. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5, before0_6, lv0_0, lv0_1, lv0_2, lv0_3, lv0_4, lv0_5, lv0_6]
  rw [show (dat0 V c).owesAt () t.succ = (dat0 V c).owesAt () t.castSucc from rfl,
    show (dat0 V c).Φ t.castSucc = Φ0 V c t.val from rfl, show (dat0 V c).Φ t.succ = Φ0 V c (t.val + 1) from rfl]
  unfold Φ0
  have hN : t.val < 16 := lt_of_lt_of_eq t.isLt (show cfg0.N = 16 from N_0)
  by_cases h1 : last (grid0.coords t)
  · have h15 : t.val % 16 = 15 := (last_iff t).mp h1
    have h0 : ¬first (grid0.coords t) := fun h => by have := (first_iff t).mp h; omega
    rw [lv0_7 V c t h1, lv0_8 V c t h1, lv0_9 V c t h1, lv0_10 V c t h1, lv0_11 V c t h1, after0_7, after0_8, after0_9, after0_10, after0_11]
    iintro ⟨⟨%s, %n, %hsn, HS, HN, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    obtain ⟨rfl, rfl⟩ := hsn (by omega)
    iapply (run_last c (grid0.coords t) _ _ _ _ _ _ _ _ _ _ _ _ _ _ _ _ _ _ _ _ _ _ _ _ _ _ _ _ h0 h1 (iblk V c 0 t) (iblk V c 1 t) (accS V c t.val) (accN V c t.val) (iblk V c 2 t) (iblk V c 3 t) (iblk V c 6 t) _ _ _ (iblk V c 4 t) (iblk V c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    isplitl [HN]; · iexact HN
    iintro ⟨H0, H1, H2, H3, H4, H5, H6, H7, H8, H9, H10, H11, HS, HN⟩
    rw [accS_succ, accN_succ]
    isplitl [HS HN Hr]
    · iexists _; iexists _; isplitr
      swap
      · isplitl [HS]; · iexact HS
        isplitl [HN]; · iexact HN
        iexact Hr
      ipureintro; exact fun _ => ⟨rfl, rfl⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have h15 : ¬t.val % 16 = 15 := fun h => h1 ((last_iff t).mpr h)
    rw [Dat.leavesExact_idle (dat0 V c) 7 t (idle_out t h1 7 (by decide)).1 (idle_out t h1 7 (by decide)).2, Dat.leavesExact_idle (dat0 V c) 8 t (idle_out t h1 8 (by decide)).1 (idle_out t h1 8 (by decide)).2, Dat.leavesExact_idle (dat0 V c) 9 t (idle_out t h1 9 (by decide)).1 (idle_out t h1 9 (by decide)).2, Dat.leavesExact_idle (dat0 V c) 10 t (idle_out t h1 10 (by decide)).1 (idle_out t h1 10 (by decide)).2, Dat.leavesExact_idle (dat0 V c) 11 t (idle_out t h1 11 (by decide)).1 (idle_out t h1 11 (by decide)).2]
    by_cases h0 : first (grid0.coords t)
    · iintro ⟨⟨%s, %n, %hsn, HS, HN, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      have hz : t.val = 0 := by have := (first_iff t).mp h0; omega
      have e0 : accS V c t.val = k0_pay1 := by rw [hz]; rfl
      have e1 : accN V c t.val = k0_pay2 := by rw [hz]; rfl
      iapply (run_first c (grid0.coords t) _ _ _ _ (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) _ _ _ _ h0 h1 (iblk V c 0 t) (iblk V c 1 t) s n Set.univ _)
      isplitl [H0]; · iexact H0
      isplitl [H1]; · iexact H1
      isplitl [HS]; · iexact HS
      isplitl [HN]; · iexact HN
      iintro ⟨H0, H1, HS, HN⟩
      rw [accS_succ, accN_succ, e0, e1]
      isplitl [HS HN Hr]
      · iexists _; iexists _; isplitr
        swap
        · isplitl [HS]; · iexact HS
          isplitl [HN]; · iexact HN
          iexact Hr
        ipureintro; exact fun _ => ⟨rfl, rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      iexists _; iexact H11
    · iintro ⟨⟨%s, %n, %hsn, HS, HN, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      have hz : t.val ≠ 0 := fun h => h0 ((first_iff t).mpr (by omega))
      obtain ⟨rfl, rfl⟩ := hsn hz
      iapply (run_mid c (grid0.coords t) _ _ _ _ (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) _ _ _ _ h0 h1 (iblk V c 0 t) (iblk V c 1 t) (accS V c t.val) (accN V c t.val) Set.univ _)
      isplitl [H0]; · iexact H0
      isplitl [H1]; · iexact H1
      isplitl [HS]; · iexact HS
      isplitl [HN]; · iexact HN
      iintro ⟨H0, H1, HS, HN⟩
      rw [accS_succ, accN_succ]
      isplitl [HS HN Hr]
      · iexists _; iexists _; isplitr
        swap
        · isplitl [HS]; · iexact HS
          isplitl [HN]; · iexact HN
          iexact Hr
        ipureintro; exact fun _ => ⟨rfl, rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      iexists _; iexact H11

/-- The body table's row at point `t` is the body. -/
theorem row0 (t : Fin cfg0.N) : defs₀ (F := F) .tc cfg0.body (cfg0.bodyArgs t (cfg0.slots t)) = bodyAt0 t := by
  unfold defs₀; rw [Defs.onTc_tc]

/-- The region's body obligation. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

/-- The scoped rest and the generator register make the invariant before the first point. -/
theorem in0 (c : Dev nD) : iprop(Pipeline.scopedRest (Ix := Unit) (Name := ℕ) (U := UR sig nD τ) (Lvl := ℕ) (Val := Elt F) spec0 c ∗ ∃ r, prngReg c r) ⊢ (dat0 V c).Φ 0 := by
  rw [show (dat0 V c).Φ 0 = Φ0 V c 0 from rfl, scopedRest0_eq]
  unfold Φ0 restΦ
  simp only [owns_whole_eq]
  iintro ⟨⟨⟨%f0, H0⟩, ⟨%f1, H1⟩, Hrest⟩, Hg⟩
  iexists f0; iexists f1
  isplitr; · ipureintro; exact fun h => absurd rfl h
  isplitl [H0]; · iexists _; isplitr; swap; (· iexact H0); ipureintro; rfl
  isplitl [H1]; · iexists _; isplitr; swap; (· iexact H1); ipureintro; rfl
  isplitl [Hrest]; · iexact Hrest
  iexact Hg

/-- The invariant after the last point gives the scoped rest and the generator register back. -/
theorem out0 (c : Dev nD) : (dat0 V c).Φ (Fin.last cfg0.N) ⊢ iprop(Pipeline.scopedRest (Ix := Unit) (Name := ℕ) (U := UR sig nD τ) (Lvl := ℕ) (Val := Elt F) spec0 c ∗ ∃ r, prngReg c r) := by
  rw [show (dat0 V c).Φ (Fin.last cfg0.N) = Φ0 V c cfg0.N from rfl, scopedRest0_eq]
  unfold Φ0 restΦ
  simp only [owns_whole_eq]
  iintro ⟨%s, %n, -, ⟨%f0, -, H0⟩, ⟨%f1, -, H1⟩, Hrest, Hg⟩
  isplitr [Hg]
  · isplitl [H0]; · iexists f0; iexact H0
    isplitl [H1]; · iexists f1; iexact H1
    iexact Hrest
  iexact Hg

end Cert.KernelIdeal.Upd

end
-- ==== Proof.Ideal.Body1.lean ====
module

public import proofs.«01_k».proof.Proof.Ideal.Body0

@[expose] public section

noncomputable section

namespace Cert.KernelIdeal.Upd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A load of a whole buffer, its sizes 1, 1 written out, reads what the view reads. -/
theorem rq_1 (v : View sig .tc .smem S1x1 .i32) (f : v.ty.Contents (Elt F)) (inb) :
    v.readAt (Elt F) (Rect.unit ![0, 0] ![1, 1] inb).toLoadRect f = v.read (Elt F) f := View.readAt_full v f inb

/-- A load of a whole buffer, its sizes 1000, 128 written out, reads what the view reads. -/
theorem rq_2 (v : View sig .tc .vmem S1000x128 .f32) (f : v.ty.Contents (Elt F)) (inb) :
    v.readAt (Elt F) (Rect.unit ![0, 0] ![1000, 128] inb).toLoadRect f = v.read (Elt F) f := View.readAt_full v f inb

/-- A load of a whole buffer, its sizes 1, 1000 written out, reads what the view reads. -/
theorem rq_3 (v : View sig .tc .vmem S1x1000 .f32) (f : v.ty.Contents (Elt F)) (inb) :
    v.readAt (Elt F) (Rect.unit ![0, 0] ![1, 1000] inb).toLoadRect f = v.read (Elt F) f := View.readAt_full v f inb

/-- The one word of a 1 by 1 block. -/
def word1 (x : Vec F S1x1 .i32) : BitVec 32 := x (Shape.Idx.first (by decide))

set_option maxHeartbeats 2000000 in
/-- One domain's point stores the five rows for its domain: the new ones where the domain is the word's, zero elsewhere. -/
theorem run_row (c : Dev nD) (i : grid1.Coords) (arg1 : Memref sig .tc .smem S1x1 .i32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S1x1000 .f32) (harg4 : arg4.IsWhole) (arg5 : Memref sig .tc .vmem S1x1000 .f32) (harg5 : arg5.IsWhole) (arg6 : Memref sig .tc .vmem S1000x128 .f32) (harg6 : arg6.IsWhole) (arg7 : Memref sig .tc .vmem S1x1000x128 .f32) (harg7 : arg7.IsWhole) (arg8 : Memref sig .tc .vmem S1x1000x128 .f32) (harg8 : arg8.IsWhole) (arg9 : Memref sig .tc .vmem S1x1x1000 .f32) (harg9 : arg9.IsWhole) (arg10 : Memref sig .tc .vmem S1x1x1000 .f32) (harg10 : arg10.IsWhole) (arg11 : Memref sig .tc .vmem S1x1000x128 .f32) (harg11 : arg11.IsWhole)
    (x0 : Vec F S1x1 .i32) (x1 x2 x5 : Vec F S1000x128 .f32) (x3 x4 : Vec F S1x1000 .f32) (x6 x7 x10 : Vec F S1x1000x128 .f32) (x8 x9 : Vec F S1x1x1000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay2 i (word1 x0) x1) ∗ owns (c : Thread nD τ) arg8 fullShare (k1_pay3 i (word1 x0) x2) ∗ owns (c : Thread nD τ) arg9 fullShare (k1_pay4 i (word1 x0) x3) ∗ owns (c : Thread nD τ) arg10 fullShare (k1_pay5 i (word1 x0) x4) ∗ owns (c : Thread nD τ) arg11 fullShare (k1_pay1 (Scalar.cmpi .eq (BitVec.ofNat 32 (i 0).val) (word1 x0)) x5)) -∗ K ⟨⟩))
      ⊢ wp frame (wpE (defs₀ (F := F)) Variants.none c none) E (cc1__assemble_kernel i arg1 harg1 arg2 harg2 arg3 harg3 arg4 harg4 arg5 harg5 arg6 harg6 arg7 harg7 arg8 harg8 arg9 harg9 arg10 harg10 arg11 harg11) K := by
  simp only [cc1__assemble_kernel_eq_skeleton]; unfold cc1__assemble_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [View.read_writes_full]; (first | delta run_row.sl.v1 run_row.sl.r | delta run_row.sl.r | skip); simp only [rq_1, rq_2, rq_3, View.readAt_full, Memref.IsWhole.read_unread]; try rfl
  isplitl [H8]
  · iexists _; isplitr
    swap; · iexact H8
    ipureintro
    rw [View.read_writes_full]; (first | delta run_row.sl.v1 run_row.sl.r | delta run_row.sl.r | skip); simp only [rq_1, rq_2, rq_3, View.readAt_full, Memref.IsWhole.read_unread]; try rfl
  isplitl [H9]
  · iexists _; isplitr
    swap; · iexact H9
    ipureintro
    rw [View.read_writes_full]; (first | delta run_row.sl.v1 run_row.sl.r | delta run_row.sl.r | skip); simp only [rq_1, rq_2, rq_3, View.readAt_full, Memref.IsWhole.read_unread]; try rfl
  isplitl [H10]
  · iexists _; isplitr
    swap; · iexact H10
    ipureintro
    rw [View.read_writes_full]; (first | delta run_row.sl.v1 run_row.sl.r | delta run_row.sl.r | skip); simp only [rq_1, rq_2, rq_3, View.readAt_full, Memref.IsWhole.read_unread]; try rfl
  iexists _; isplitr
  swap; · iexact H11
  ipureintro
  rw [View.read_writes_full]; (first | delta run_row.sl.v1 run_row.sl.r | delta run_row.sl.r | skip); simp only [rq_1, rq_2, rq_3, View.readAt_full, Memref.IsWhole.read_unread]; try rfl

end Cert.KernelIdeal.Upd

end
-- ==== Proof.Ideal.Region1.lean ====
module

public import proofs.«01_k».proof.Proof.Ideal.Body1

@[expose] public section

noncomputable section

namespace Cert.KernelIdeal.Upd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t` of the second region, read off its array as the region finds it. -/
def jblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The word naming the updated domain. -/
abbrev word (c : Dev nD) (t : Fin cfg1.N) : BitVec 32 := word1 (jblk V c 0 t)

/-- The invariant: the scoped buffers that the region does not stage, and the generator register. -/
def Φ1 (c : Dev nD) : sProp 𝕄 :=
  iprop(Pipeline.scopedRest (Ix := Unit) (Name := ℕ) (U := UR sig nD τ) (Lvl := ℕ) (Val := Elt F) spec1 c ∗ ∃ r, prngReg c r)

/-- The second region's proof data, entered from `V`. -/
def dat1 (c : Dev nD) : Dat τ (Elt F) Unit ℕ (UR sig nD τ) ℕ cfg1 c where
  A w := V c (Pipeline.arrRef spec1 w)
  after w t := match w with
    | ⟨0, _⟩ => jblk V c 0 t
    | ⟨1, _⟩ => jblk V c 1 t
    | ⟨2, _⟩ => jblk V c 2 t
    | ⟨3, _⟩ => jblk V c 3 t
    | ⟨4, _⟩ => jblk V c 4 t
    | ⟨5, _⟩ => jblk V c 5 t
    | ⟨6, _⟩ => k1_pay2 (grid1.coords t) (word V c t) (jblk V c 1 t)
    | ⟨7, _⟩ => k1_pay3 (grid1.coords t) (word V c t) (jblk V c 2 t)
    | ⟨8, _⟩ => k1_pay4 (grid1.coords t) (word V c t) (jblk V c 3 t)
    | ⟨9, _⟩ => k1_pay5 (grid1.coords t) (word V c t) (jblk V c 4 t)
    | ⟨10, _⟩ => k1_pay1 (Scalar.cmpi .eq (BitVec.ofNat 32 (grid1.coords t 0).val) (word V c t)) (jblk V c 5 t)
  Φ _ := Φ1 c
  q _ := fullShare
  owed _ := 0

theorem A1_eq (c : Dev nD) (w : Fin cfg1.W) : (dat1 V c).A w = V c (Pipeline.arrRef spec1 w) := by dsimp only [dat1]

theorem after1_0 (c : Dev nD) (t : Fin cfg1.N) : (dat1 V c).after 0 t = jblk V c 0 t := by dsimp only [dat1]
theorem before1_0 (c : Dev nD) (t : Fin cfg1.N) (d) : (dat1 V c).before 0 t d = jblk V c 0 t :=
  ((dat1 V c).before_in_eq_fetched 0 rfl (fun _ => rfl) (fun _ _ _ => rfl) (fun t => by rw [after1_0]; unfold Dat.blockOf jblk; rw [A1_eq]; try rfl) t d).trans
    (by unfold Dat.fetched Dat.blockOf jblk; rw [A1_eq]; try rfl)

theorem after1_1 (c : Dev nD) (t : Fin cfg1.N) : (dat1 V c).after 1 t = jblk V c 1 t := by dsimp only [dat1]
theorem before1_1 (c : Dev nD) (t : Fin cfg1.N) (d) : (dat1 V c).before 1 t d = jblk V c 1 t :=
  ((dat1 V c).before_in_eq_fetched 1 rfl (fun _ => rfl) (fun _ _ _ => rfl) (fun t => by rw [after1_1]; unfold Dat.blockOf jblk; rw [A1_eq]; try rfl) t d).trans
    (by unfold Dat.fetched Dat.blockOf jblk; rw [A1_eq]; try rfl)

theorem after1_2 (c : Dev nD) (t : Fin cfg1.N) : (dat1 V c).after 2 t = jblk V c 2 t := by dsimp only [dat1]
theorem before1_2 (c : Dev nD) (t : Fin cfg1.N) (d) : (dat1 V c).before 2 t d = jblk V c 2 t :=
  ((dat1 V c).before_in_eq_fetched 2 rfl (fun _ => rfl) (fun _ _ _ => rfl) (fun t => by rw [after1_2]; unfold Dat.blockOf jblk; rw [A1_eq]; try rfl) t d).trans
    (by unfold Dat.fetched Dat.blockOf jblk; rw [A1_eq]; try rfl)

theorem after1_3 (c : Dev nD) (t : Fin cfg1.N) : (dat1 V c).after 3 t = jblk V c 3 t := by dsimp only [dat1]
theorem before1_3 (c : Dev nD) (t : Fin cfg1.N) (d) : (dat1 V c).before 3 t d = jblk V c 3 t :=
  ((dat1 V c).before_in_eq_fetched 3 rfl (fun _ => rfl) (fun _ _ _ => rfl) (fun t => by rw [after1_3]; unfold Dat.blockOf jblk; rw [A1_eq]; try rfl) t d).trans
    (by unfold Dat.fetched Dat.blockOf jblk; rw [A1_eq]; try rfl)

theorem after1_4 (c : Dev nD) (t : Fin cfg1.N) : (dat1 V c).after 4 t = jblk V c 4 t := by dsimp only [dat1]
theorem before1_4 (c : Dev nD) (t : Fin cfg1.N) (d) : (dat1 V c).before 4 t d = jblk V c 4 t :=
  ((dat1 V c).before_in_eq_fetched 4 rfl (fun _ => rfl) (fun _ _ _ => rfl) (fun t => by rw [after1_4]; unfold Dat.blockOf jblk; rw [A1_eq]; try rfl) t d).trans
    (by unfold Dat.fetched Dat.blockOf jblk; rw [A1_eq]; try rfl)

theorem after1_5 (c : Dev nD) (t : Fin cfg1.N) : (dat1 V c).after 5 t = jblk V c 5 t := by dsimp only [dat1]
theorem before1_5 (c : Dev nD) (t : Fin cfg1.N) (d) : (dat1 V c).before 5 t d = jblk V c 5 t :=
  ((dat1 V c).before_in_eq_fetched 5 rfl (fun _ => rfl) (fun _ _ _ => rfl) (fun t => by rw [after1_5]; unfold Dat.blockOf jblk; rw [A1_eq]; try rfl) t d).trans
    (by unfold Dat.fetched Dat.blockOf jblk; rw [A1_eq]; try rfl)

theorem after1_6 (c : Dev nD) (t : Fin cfg1.N) : (dat1 V c).after 6 t = k1_pay2 (grid1.coords t) (word V c t) (jblk V c 1 t) := by dsimp only [dat1]

theorem after1_7 (c : Dev nD) (t : Fin cfg1.N) : (dat1 V c).after 7 t = k1_pay3 (grid1.coords t) (word V c t) (jblk V c 2 t) := by dsimp only [dat1]

theorem after1_8 (c : Dev nD) (t : Fin cfg1.N) : (dat1 V c).after 8 t = k1_pay4 (grid1.coords t) (word V c t) (jblk V c 3 t) := by dsimp only [dat1]

theorem after1_9 (c : Dev nD) (t : Fin cfg1.N) : (dat1 V c).after 9 t = k1_pay5 (grid1.coords t) (word V c t) (jblk V c 4 t) := by dsimp only [dat1]

theorem after1_10 (c : Dev nD) (t : Fin cfg1.N) : (dat1 V c).after 10 t = k1_pay1 (Scalar.cmpi .eq (BitVec.ofNat 32 (grid1.coords t 0).val) (word V c t)) (jblk V c 5 t) := by dsimp only [dat1]

theorem lv1_0 (c : Dev nD) (t : Fin cfg1.N) : (dat1 V c).leavesExact 0 t = owns (c : Thread nD τ) (st1_0 t) fullShare ((dat1 V c).after 0 t) := by
  unfold Dat.leavesExact; rw [show cfg1.idle 0 (grid1.coords t) = false from rfl]

theorem lv1_1 (c : Dev nD) (t : Fin cfg1.N) : (dat1 V c).leavesExact 1 t = owns (c : Thread nD τ) (st1_1 t) fullShare ((dat1 V c).after 1 t) := by
  unfold Dat.leavesExact; rw [show cfg1.idle 1 (grid1.coords t) = false from rfl]

theorem lv1_2 (c : Dev nD) (t : Fin cfg1.N) : (dat1 V c).leavesExact 2 t = owns (c : Thread nD τ) (st1_2 t) fullShare ((dat1 V c).after 2 t) := by
  unfold Dat.leavesExact; rw [show cfg1.idle 2 (grid1.coords t) = false from rfl]

theorem lv1_3 (c : Dev nD) (t : Fin cfg1.N) : (dat1 V c).leavesExact 3 t = owns (c : Thread nD τ) (st1_3 t) fullShare ((dat1 V c).after 3 t) := by
  unfold Dat.leavesExact; rw [show cfg1.idle 3 (grid1.coords t) = false from rfl]

theorem lv1_4 (c : Dev nD) (t : Fin cfg1.N) : (dat1 V c).leavesExact 4 t = owns (c : Thread nD τ) (st1_4 t) fullShare ((dat1 V c).after 4 t) := by
  unfold Dat.leavesExact; rw [show cfg1.idle 4 (grid1.coords t) = false from rfl]

theorem lv1_5 (c : Dev nD) (t : Fin cfg1.N) : (dat1 V c).leavesExact 5 t = owns (c : Thread nD τ) (st1_5 t) fullShare ((dat1 V c).after 5 t) := by
  unfold Dat.leavesExact; rw [show cfg1.idle 5 (grid1.coords t) = false from rfl]

theorem lv1_6 (c : Dev nD) (t : Fin cfg1.N) : (dat1 V c).leavesExact 6 t = owns (c : Thread nD τ) (st1_6 t) fullShare ((dat1 V c).after 6 t) := by
  unfold Dat.leavesExact; rw [show cfg1.idle 6 (grid1.coords t) = false from rfl]

theorem lv1_7 (c : Dev nD) (t : Fin cfg1.N) : (dat1 V c).leavesExact 7 t = owns (c : Thread nD τ) (st1_7 t) fullShare ((dat1 V c).after 7 t) := by
  unfold Dat.leavesExact; rw [show cfg1.idle 7 (grid1.coords t) = false from rfl]

theorem lv1_8 (c : Dev nD) (t : Fin cfg1.N) : (dat1 V c).leavesExact 8 t = owns (c : Thread nD τ) (st1_8 t) fullShare ((dat1 V c).after 8 t) := by
  unfold Dat.leavesExact; rw [show cfg1.idle 8 (grid1.coords t) = false from rfl]

theorem lv1_9 (c : Dev nD) (t : Fin cfg1.N) : (dat1 V c).leavesExact 9 t = owns (c : Thread nD τ) (st1_9 t) fullShare ((dat1 V c).after 9 t) := by
  unfold Dat.leavesExact; rw [show cfg1.idle 9 (grid1.coords t) = false from rfl]

theorem lv1_10 (c : Dev nD) (t : Fin cfg1.N) : (dat1 V c).leavesExact 10 t = owns (c : Thread nD τ) (st1_10 t) fullShare ((dat1 V c).after 10 t) := by
  unfold Dat.leavesExact; rw [show cfg1.idle 10 (grid1.coords t) = false from rfl]

/-- What the second body is called with at point `t`. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)) ∗ (∃ d, owns (c : Thread nD τ) (st1_3 t) fullShare ((dat1 V c).before 3 t d)) ∗ (∃ d, owns (c : Thread nD τ) (st1_4 t) fullShare ((dat1 V c).before 4 t d)) ∗ (∃ d, owns (c : Thread nD τ) (st1_5 t) fullShare ((dat1 V c).before 5 t d)) ∗ (∃ d, owns (c : Thread nD τ) (st1_6 t) fullShare ((dat1 V c).before 6 t d)) ∗ (∃ d, owns (c : Thread nD τ) (st1_7 t) fullShare ((dat1 V c).before 7 t d)) ∗ (∃ d, owns (c : Thread nD τ) (st1_8 t) fullShare ((dat1 V c).before 8 t d)) ∗ (∃ d, owns (c : Thread nD τ) (st1_9 t) fullShare ((dat1 V c).before 9 t d)) ∗ (∃ d, owns (c : Thread nD τ) (st1_10 t) fullShare ((dat1 V c).before 10 t d)))

/-- What the second body returns at point `t`. -/
def post1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t ∗ (dat1 V c).leavesExact 9 t ∗ (dat1 V c).leavesExact 10 t)

set_option maxHeartbeats 4000000 in
/-- The second body at any point. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, lv1_0, lv1_1, lv1_2, lv1_3, lv1_4, lv1_5, lv1_6, lv1_7, lv1_8, lv1_9, lv1_10, after1_0, after1_1, after1_2, after1_3, after1_4, after1_5, after1_6, after1_7, after1_8, after1_9, after1_10]
  rw [show (dat1 V c).owesAt () t.succ = (dat1 V c).owesAt () t.castSucc from rfl,
    show (dat1 V c).Φ t.castSucc = Φ1 c from rfl, show (dat1 V c).Φ t.succ = Φ1 c from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_row c (grid1.coords t) _ _ _ _ _ _ _ _ _ _ _ _ _ _ _ _ _ _ _ _ _ _ (jblk V c 0 t) (jblk V c 1 t) (jblk V c 2 t) (jblk V c 5 t) (jblk V c 3 t) (jblk V c 4 t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t` of the second region is its body. -/
theorem row1 (t : Fin cfg1.N) : defs₀ (F := F) .tc cfg1.body (cfg1.bodyArgs t (cfg1.slots t)) = bodyAt1 t := by
  unfold defs₀; rw [Defs.onTc_tc]

/-- The second region's body obligation. -/
theorem obligation1 (c : Dev nD) : BodyObligation (dat1 (F := F) V c) (defs₀ (F := F)) Variants.none () Set.univ := fun t => by
  rw [bigSep_W1, bigSep_W1, row1]
  exact triple_restated (body1 V c t) rfl .rfl fun _ => .rfl

end Cert.KernelIdeal.Upd

end
-- ==== Proof.Ideal.Run.lean ====
module

public import proofs.«01_k».proof.Proof.Gen.KernelIdeal.Regions
public import proofs.«01_k».proof.Proof.Ideal.Region0
public import proofs.«01_k».proof.Proof.Ideal.Region1
public import Idealize.ShloMosaic.Lib.Pipeline.RegionsLoop

@[expose] public section

noncomputable section

namespace Cert.KernelIdeal.Upd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf HostSeg RegionSeg Seg)

variable {F : FTy → Type} [FloatOps F] [Named F]

local notation "𝕄" => MT nD τ sig Unit (Elt F) ℕ (UR sig nD τ) ℕ

variable (m : (ℓ : Loc nD τ sig) → Buf (Elt F) ℓ)

/-- The contents the first region is entered with. -/
abbrev Ve0 (c : Dev nD) (b : Ref sig .tc) : Buf (Elt F) ((c : Thread nD τ).loc b) := V8 m c (Proc.devRef .tc b)

/-- The buffers after the first region: its five output arrays at what the write-backs leave. -/
def W9 (c : Dev nD) : Valuation τ sig (Elt F) :=
  Function.update (Function.update (Function.update (Function.update (Function.update (V8 m c) (Proc.devRef .tc main_v9_0) ((dat0 (Ve0 m) c).arrAt 7 cfg0.N)) (Proc.devRef .tc main_v9_1) ((dat0 (Ve0 m) c).arrAt 8 cfg0.N)) (Proc.devRef .tc main_v9_2) ((dat0 (Ve0 m) c).arrAt 9 cfg0.N)) (Proc.devRef .tc main_v9_3) ((dat0 (Ve0 m) c).arrAt 10 cfg0.N)) (Proc.devRef .tc main_v9_4) ((dat0 (Ve0 m) c).arrAt 11 cfg0.N)

/-- What the regions leave, the second not yet said. -/
def outs0 : Outs (F := F) := fun _ r c => W9 m c (Proc.devRef .tc r)

/-- The contents the second region is entered with. -/
abbrev Ve1 (c : Dev nD) (b : Ref sig .tc) : Buf (Elt F) ((c : Thread nD τ).loc b) := V10 m (outs0 m) c (Proc.devRef .tc b)

/-- The buffers after the second region. -/
def W11 (c : Dev nD) : Valuation τ sig (Elt F) :=
  Function.update (Function.update (Function.update (Function.update (Function.update (V10 m (outs0 m) c) (Proc.devRef .tc main_v13_0) ((dat1 (Ve1 m) c).arrAt 6 cfg1.N)) (Proc.devRef .tc main_v13_1) ((dat1 (Ve1 m) c).arrAt 7 cfg1.N)) (Proc.devRef .tc main_v13_2) ((dat1 (Ve1 m) c).arrAt 8 cfg1.N)) (Proc.devRef .tc main_v13_3) ((dat1 (Ve1 m) c).arrAt 9 cfg1.N)) (Proc.devRef .tc main_v13_4) ((dat1 (Ve1 m) c).arrAt 10 cfg1.N)

/-- What the two regions leave. -/
def outsK : Outs (F := F) := fun k r c => if k = 9 then W9 m c (Proc.devRef .tc r) else W11 m c (Proc.devRef .tc r)

theorem V10_eq (c : Dev nD) : V10 m (outsK m) c = V10 m (outs0 m) c := by
  unfold V10 V9 outsK outs0; simp only [if_true]

theorem V9_at_main_v9_0 (c : Dev nD) : V9 m (outsK m) c (Proc.devRef .tc main_v9_0) = (dat0 (Ve0 m) c).arrAt 7 cfg0.N := by
  have h : V9 m (outsK m) c (Proc.devRef .tc main_v9_0) = outsK m 9 main_v9_0 c := by simp only [V9, Function.update_of_ne (StableHlo.devRef_ne_of_ne (by decide : (main_v9_0 : Ref sig .tc) ≠ main_v9_1)), Function.update_of_ne (StableHlo.devRef_ne_of_ne (by decide : (main_v9_0 : Ref sig .tc) ≠ main_v9_2)), Function.update_of_ne (StableHlo.devRef_ne_of_ne (by decide : (main_v9_0 : Ref sig .tc) ≠ main_v9_3)), Function.update_of_ne (StableHlo.devRef_ne_of_ne (by decide : (main_v9_0 : Ref sig .tc) ≠ main_v9_4)), Function.update_self]
  rw [h]; unfold outsK; rw [if_pos (rfl : 9 = 9)]; unfold W9; simp only [Function.update_of_ne (StableHlo.devRef_ne_of_ne (by decide : (main_v9_0 : Ref sig .tc) ≠ main_v9_1)), Function.update_of_ne (StableHlo.devRef_ne_of_ne (by decide : (main_v9_0 : Ref sig .tc) ≠ main_v9_2)), Function.update_of_ne (StableHlo.devRef_ne_of_ne (by decide : (main_v9_0 : Ref sig .tc) ≠ main_v9_3)), Function.update_of_ne (StableHlo.devRef_ne_of_ne (by decide : (main_v9_0 : Ref sig .tc) ≠ main_v9_4)), Function.update_self]
theorem V9_at_main_v9_1 (c : Dev nD) : V9 m (outsK m) c (Proc.devRef .tc main_v9_1) = (dat0 (Ve0 m) c).arrAt 8 cfg0.N := by
  have h : V9 m (outsK m) c (Proc.devRef .tc main_v9_1) = outsK m 9 main_v9_1 c := by simp only [V9, Function.update_of_ne (StableHlo.devRef_ne_of_ne (by decide : (main_v9_1 : Ref sig .tc) ≠ main_v9_2)), Function.update_of_ne (StableHlo.devRef_ne_of_ne (by decide : (main_v9_1 : Ref sig .tc) ≠ main_v9_3)), Function.update_of_ne (StableHlo.devRef_ne_of_ne (by decide : (main_v9_1 : Ref sig .tc) ≠ main_v9_4)), Function.update_self]
  rw [h]; unfold outsK; rw [if_pos (rfl : 9 = 9)]; unfold W9; simp only [Function.update_of_ne (StableHlo.devRef_ne_of_ne (by decide : (main_v9_1 : Ref sig .tc) ≠ main_v9_2)), Function.update_of_ne (StableHlo.devRef_ne_of_ne (by decide : (main_v9_1 : Ref sig .tc) ≠ main_v9_3)), Function.update_of_ne (StableHlo.devRef_ne_of_ne (by decide : (main_v9_1 : Ref sig .tc) ≠ main_v9_4)), Function.update_self]
theorem V9_at_main_v9_2 (c : Dev nD) : V9 m (outsK m) c (Proc.devRef .tc main_v9_2) = (dat0 (Ve0 m) c).arrAt 9 cfg0.N := by
  have h : V9 m (outsK m) c (Proc.devRef .tc main_v9_2) = outsK m 9 main_v9_2 c := by simp only [V9, Function.update_of_ne (StableHlo.devRef_ne_of_ne (by decide : (main_v9_2 : Ref sig .tc) ≠ main_v9_3)), Function.update_of_ne (StableHlo.devRef_ne_of_ne (by decide : (main_v9_2 : Ref sig .tc) ≠ main_v9_4)), Function.update_self]
  rw [h]; unfold outsK; rw [if_pos (rfl : 9 = 9)]; unfold W9; simp only [Function.update_of_ne (StableHlo.devRef_ne_of_ne (by decide : (main_v9_2 : Ref sig .tc) ≠ main_v9_3)), Function.update_of_ne (StableHlo.devRef_ne_of_ne (by decide : (main_v9_2 : Ref sig .tc) ≠ main_v9_4)), Function.update_self]
theorem V9_at_main_v9_3 (c : Dev nD) : V9 m (outsK m) c (Proc.devRef .tc main_v9_3) = (dat0 (Ve0 m) c).arrAt 10 cfg0.N := by
  have h : V9 m (outsK m) c (Proc.devRef .tc main_v9_3) = outsK m 9 main_v9_3 c := by simp only [V9, Function.update_of_ne (StableHlo.devRef_ne_of_ne (by decide : (main_v9_3 : Ref sig .tc) ≠ main_v9_4)), Function.update_self]
  rw [h]; unfold outsK; rw [if_pos (rfl : 9 = 9)]; unfold W9; simp only [Function.update_of_ne (StableHlo.devRef_ne_of_ne (by decide : (main_v9_3 : Ref sig .tc) ≠ main_v9_4)), Function.update_self]
theorem V9_at_main_v9_4 (c : Dev nD) : V9 m (outsK m) c (Proc.devRef .tc main_v9_4) = (dat0 (Ve0 m) c).arrAt 11 cfg0.N := by
  have h : V9 m (outsK m) c (Proc.devRef .tc main_v9_4) = outsK m 9 main_v9_4 c := by simp only [V9, Function.update_self]
  rw [h]; unfold outsK; rw [if_pos (rfl : 9 = 9)]; unfold W9; simp only [Function.update_self]
theorem V11_at_main_v13_0 (c : Dev nD) : V11 m (outsK m) c (Proc.devRef .tc main_v13_0) = (dat1 (Ve1 m) c).arrAt 6 cfg1.N := by
  have h : V11 m (outsK m) c (Proc.devRef .tc main_v13_0) = outsK m 11 main_v13_0 c := by simp only [V11, Function.update_of_ne (StableHlo.devRef_ne_of_ne (by decide : (main_v13_0 : Ref sig .tc) ≠ main_v13_1)), Function.update_of_ne (StableHlo.devRef_ne_of_ne (by decide : (main_v13_0 : Ref sig .tc) ≠ main_v13_2)), Function.update_of_ne (StableHlo.devRef_ne_of_ne (by decide : (main_v13_0 : Ref sig .tc) ≠ main_v13_3)), Function.update_of_ne (StableHlo.devRef_ne_of_ne (by decide : (main_v13_0 : Ref sig .tc) ≠ main_v13_4)), Function.update_self]
  rw [h]; unfold outsK; rw [if_neg (by decide : ¬ (11 = 9))]; unfold W11; simp only [Function.update_of_ne (StableHlo.devRef_ne_of_ne (by decide : (main_v13_0 : Ref sig .tc) ≠ main_v13_1)), Function.update_of_ne (StableHlo.devRef_ne_of_ne (by decide : (main_v13_0 : Ref sig .tc) ≠ main_v13_2)), Function.update_of_ne (StableHlo.devRef_ne_of_ne (by decide : (main_v13_0 : Ref sig .tc) ≠ main_v13_3)), Function.update_of_ne (StableHlo.devRef_ne_of_ne (by decide : (main_v13_0 : Ref sig .tc) ≠ main_v13_4)), Function.update_self]
theorem V11_at_main_v13_1 (c : Dev nD) : V11 m (outsK m) c (Proc.devRef .tc main_v13_1) = (dat1 (Ve1 m) c).arrAt 7 cfg1.N := by
  have h : V11 m (outsK m) c (Proc.devRef .tc main_v13_1) = outsK m 11 main_v13_1 c := by simp only [V11, Function.update_of_ne (StableHlo.devRef_ne_of_ne (by decide : (main_v13_1 : Ref sig .tc) ≠ main_v13_2)), Function.update_of_ne (StableHlo.devRef_ne_of_ne (by decide : (main_v13_1 : Ref sig .tc) ≠ main_v13_3)), Function.update_of_ne (StableHlo.devRef_ne_of_ne (by decide : (main_v13_1 : Ref sig .tc) ≠ main_v13_4)), Function.update_self]
  rw [h]; unfold outsK; rw [if_neg (by decide : ¬ (11 = 9))]; unfold W11; simp only [Function.update_of_ne (StableHlo.devRef_ne_of_ne (by decide : (main_v13_1 : Ref sig .tc) ≠ main_v13_2)), Function.update_of_ne (StableHlo.devRef_ne_of_ne (by decide : (main_v13_1 : Ref sig .tc) ≠ main_v13_3)), Function.update_of_ne (StableHlo.devRef_ne_of_ne (by decide : (main_v13_1 : Ref sig .tc) ≠ main_v13_4)), Function.update_self]
theorem V11_at_main_v13_2 (c : Dev nD) : V11 m (outsK m) c (Proc.devRef .tc main_v13_2) = (dat1 (Ve1 m) c).arrAt 8 cfg1.N := by
  have h : V11 m (outsK m) c (Proc.devRef .tc main_v13_2) = outsK m 11 main_v13_2 c := by simp only [V11, Function.update_of_ne (StableHlo.devRef_ne_of_ne (by decide : (main_v13_2 : Ref sig .tc) ≠ main_v13_3)), Function.update_of_ne (StableHlo.devRef_ne_of_ne (by decide : (main_v13_2 : Ref sig .tc) ≠ main_v13_4)), Function.update_self]
  rw [h]; unfold outsK; rw [if_neg (by decide : ¬ (11 = 9))]; unfold W11; simp only [Function.update_of_ne (StableHlo.devRef_ne_of_ne (by decide : (main_v13_2 : Ref sig .tc) ≠ main_v13_3)), Function.update_of_ne (StableHlo.devRef_ne_of_ne (by decide : (main_v13_2 : Ref sig .tc) ≠ main_v13_4)), Function.update_self]
theorem V11_at_main_v13_3 (c : Dev nD) : V11 m (outsK m) c (Proc.devRef .tc main_v13_3) = (dat1 (Ve1 m) c).arrAt 9 cfg1.N := by
  have h : V11 m (outsK m) c (Proc.devRef .tc main_v13_3) = outsK m 11 main_v13_3 c := by simp only [V11, Function.update_of_ne (StableHlo.devRef_ne_of_ne (by decide : (main_v13_3 : Ref sig .tc) ≠ main_v13_4)), Function.update_self]
  rw [h]; unfold outsK; rw [if_neg (by decide : ¬ (11 = 9))]; unfold W11; simp only [Function.update_of_ne (StableHlo.devRef_ne_of_ne (by decide : (main_v13_3 : Ref sig .tc) ≠ main_v13_4)), Function.update_self]
theorem V11_at_main_v13_4 (c : Dev nD) : V11 m (outsK m) c (Proc.devRef .tc main_v13_4) = (dat1 (Ve1 m) c).arrAt 10 cfg1.N := by
  have h : V11 m (outsK m) c (Proc.devRef .tc main_v13_4) = outsK m 11 main_v13_4 c := by simp only [V11, Function.update_self]
  rw [h]; unfold outsK; rw [if_neg (by decide : ¬ (11 = 9))]; unfold W11; simp only [Function.update_self]

/-- The two regions' proof data. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

/-- What rides beside the buffers: the generator register, and the core's duty to nobody. -/
def rest (c : Dev nD) : sProp 𝕄 :=
  iprop((∃ r, prngReg c r) ∗ ∃ W, owes (c : Thread nD τ) (0 : CellTallies nD τ sig Unit) W)

/-- No level is assigned to any counter. -/
abbrev Lv : GSem nD τ sig → Finset Unit := fun _ => ∅
/-- The level that the statements ask for, never used. -/
abbrev lvl : GSem nD τ sig → Unit → ℕ := fun _ _ => 0

/-- After region 0 each window's array holds what the valuation says. -/
theorem leaves0 (c : Dev nD) : ∀ w : Fin cfg0.W, (dat0 (Ve0 m) c).arrAt w cfg0.N = V9 m (outsK m) c (Proc.devRef .tc (Pipeline.arrRef spec0 w))
  | 0 => ((dat0 (Ve0 m) c).arrAt_in 0 rfl _).trans ((A0_eq (Ve0 m) c 0).trans ((V9_of m (outsK m) c (Pipeline.arrRef spec0 0) (by decide)).trans rfl).symm)
  | 1 => ((dat0 (Ve0 m) c).arrAt_in 1 rfl _).trans ((A0_eq (Ve0 m) c 1).trans ((V9_of m (outsK m) c (Pipeline.arrRef spec0 1) (by decide)).trans rfl).symm)
  | 2 => ((dat0 (Ve0 m) c).arrAt_in 2 rfl _).trans ((A0_eq (Ve0 m) c 2).trans ((V9_of m (outsK m) c (Pipeline.arrRef spec0 2) (by decide)).trans rfl).symm)
  | 3 => ((dat0 (Ve0 m) c).arrAt_in 3 rfl _).trans ((A0_eq (Ve0 m) c 3).trans ((V9_of m (outsK m) c (Pipeline.arrRef spec0 3) (by decide)).trans rfl).symm)
  | 4 => ((dat0 (Ve0 m) c).arrAt_in 4 rfl _).trans ((A0_eq (Ve0 m) c 4).trans ((V9_of m (outsK m) c (Pipeline.arrRef spec0 4) (by decide)).trans rfl).symm)
  | 5 => ((dat0 (Ve0 m) c).arrAt_in 5 rfl _).trans ((A0_eq (Ve0 m) c 5).trans ((V9_of m (outsK m) c (Pipeline.arrRef spec0 5) (by decide)).trans rfl).symm)
  | 6 => ((dat0 (Ve0 m) c).arrAt_in 6 rfl _).trans ((A0_eq (Ve0 m) c 6).trans ((V9_of m (outsK m) c (Pipeline.arrRef spec0 6) (by decide)).trans rfl).symm)
  | 7 => (V9_at_main_v9_0 m c).symm
  | 8 => (V9_at_main_v9_1 m c).symm
  | 9 => (V9_at_main_v9_2 m c).symm
  | 10 => (V9_at_main_v9_3 m c).symm
  | 11 => (V9_at_main_v9_4 m c).symm
  | ⟨_ + 12, h⟩ => absurd h (Nat.not_lt.2 (Nat.le_add_left _ _))

set_option backward.isDefEq.respectTransparency.types false in
/-- Region 0 over the thread state: every unscoped buffer held, and the rest. -/
def reg0 : RegionSeg (pcfgs (F := F)) adm (pdats m) () defs₀ Variants.none Lv lvl 0 where
  win := (launch0).win.to₀
  block_pos := (launch0).block_pos
  stage_whole := (launch0).stage_whole
  K := PEmpty
  osem k := k.elim
  ho := Pipeline.OwnSemFacts.none _
  hbody c := (obligation0 (Ve0 m) c).loose
  hwaits := Pipeline.hwaits_of_owed_zero _ _ _ _ Lv lvl 0 fun _ _ => rfl
  pre c := iprop(StableHlo.held (c : Thread nD τ) (Pipeline.ucRefs τ sig) (V8 m c) ∗ rest c)
  post c := iprop(StableHlo.held (c : Thread nD τ) (Pipeline.ucRefs τ sig) (V9 m (outsK m) c) ∗ rest c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none, ← (Pipeline.unscopedBufs_held (Ix := Unit) (Name := ℕ) (U := UR sig nD τ) (Lvl := ℕ) c (V8 m c))]
    have hsplit := Pipeline.arrays_of_unscopedBufs (p := 0) (pcfgs (F := F)) adm (pdats m) (launch0).win (launch0).arr_whole c
      ((pdats m 0 c).share_full fun _ => rfl) (Ve0 m c) fun _ => rfl
    unfold rest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp] <;> iassumption
  hin c := by
    rw [show (pdats m 0 c).Φ 0 = (dat0 (Ve0 m) c).Φ 0 from rfl]
    iintro ⟨Hp, -, Hr⟩
    iapply (in0 (Ve0 m) c)
    isplitl [Hr] <;> iassumption
  hout c := by
    rw [Pipeline.ownSems0_none, show (pdats m 0 c).Φ (Fin.last _) = (dat0 (Ve0 m) c).Φ (Fin.last _) from rfl]
    iintro H
    ihave H' := (out0 (Ve0 m) c) $$ H
    icases H' with ⟨Hr, Hp⟩
    isplitl [Hp]; · iexact Hp
    isplitr; · iempintro
    iexact Hr
  hexit c := by
    rw [← (Pipeline.unscopedBufs_held (Ix := Unit) (Name := ℕ) (U := UR sig nD τ) (Lvl := ℕ) c (V9 m (outsK m) c))]
    have hjoin := Pipeline.unscopedBufs_of_arrays (p := 0) (pcfgs (F := F)) adm (Ix := Unit) (Name := ℕ) (U := UR sig nD τ) (Lvl := ℕ) (launch0).win (launch0).arr_whole c
      (pdats m) ((pdats m 0 c).share_full fun _ => rfl) (Ve0 m c) (fun b => V9 m (outsK m) c (Proc.devRef .tc b)) ((pdats m 0 c).arrAt · cfg0.N)
      (fun w => leaves0 m c w)
      (fun b hb => by
        have h0 : b ≠ main_v9_0 := fun h => hb (h ▸ Finset.mem_image.mpr ⟨7, Finset.mem_univ _, rfl⟩)
        have h1 : b ≠ main_v9_1 := fun h => hb (h ▸ Finset.mem_image.mpr ⟨8, Finset.mem_univ _, rfl⟩)
        have h2 : b ≠ main_v9_2 := fun h => hb (h ▸ Finset.mem_image.mpr ⟨9, Finset.mem_univ _, rfl⟩)
        have h3 : b ≠ main_v9_3 := fun h => hb (h ▸ Finset.mem_image.mpr ⟨10, Finset.mem_univ _, rfl⟩)
        have h4 : b ≠ main_v9_4 := fun h => hb (h ▸ Finset.mem_image.mpr ⟨11, Finset.mem_univ _, rfl⟩)
        exact (V9_of m (outsK m) c b (by simp only [List.mem_cons, List.not_mem_nil, or_false, not_or]; exact ⟨h0, h1, h2, h3, h4⟩)).trans rfl)
    unfold rest
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- Entering the second region: its invariant from the scoped rest and the generator register. -/
theorem in1 (V : (c : Dev nD) → (b : Ref sig .tc) → Buf (Elt F) ((c : Thread nD τ).loc b)) (c : Dev nD) :
    iprop(Pipeline.scopedRest (Ix := Unit) (Name := ℕ) (U := UR sig nD τ) (Lvl := ℕ) (Val := Elt F) spec1 c ∗ ∃ r, prngReg c r) ⊢ (dat1 V c).Φ 0 := by
  show _ ⊢ Φ1 c
  unfold Φ1
  exact .rfl
/-- Leaving it: the same back. -/
theorem out1 (V : (c : Dev nD) → (b : Ref sig .tc) → Buf (Elt F) ((c : Thread nD τ).loc b)) (c : Dev nD) :
    (dat1 V c).Φ (Fin.last _) ⊢ iprop(Pipeline.scopedRest (Ix := Unit) (Name := ℕ) (U := UR sig nD τ) (Lvl := ℕ) (Val := Elt F) spec1 c ∗ ∃ r, prngReg c r) := by
  show Φ1 c ⊢ _
  unfold Φ1
  exact .rfl

/-- After region 1 each window's array holds what the valuation says. -/
theorem leaves1 (c : Dev nD) : ∀ w : Fin cfg1.W, (dat1 (Ve1 m) c).arrAt w cfg1.N = V11 m (outsK m) c (Proc.devRef .tc (Pipeline.arrRef spec1 w))
  | 0 => ((dat1 (Ve1 m) c).arrAt_in 0 rfl _).trans ((A1_eq (Ve1 m) c 0).trans ((V11_of m (outsK m) c (Pipeline.arrRef spec1 0) (by decide)).trans (congrFun (V10_eq m c) _)).symm)
  | 1 => ((dat1 (Ve1 m) c).arrAt_in 1 rfl _).trans ((A1_eq (Ve1 m) c 1).trans ((V11_of m (outsK m) c (Pipeline.arrRef spec1 1) (by decide)).trans (congrFun (V10_eq m c) _)).symm)
  | 2 => ((dat1 (Ve1 m) c).arrAt_in 2 rfl _).trans ((A1_eq (Ve1 m) c 2).trans ((V11_of m (outsK m) c (Pipeline.arrRef spec1 2) (by decide)).trans (congrFun (V10_eq m c) _)).symm)
  | 3 => ((dat1 (Ve1 m) c).arrAt_in 3 rfl _).trans ((A1_eq (Ve1 m) c 3).trans ((V11_of m (outsK m) c (Pipeline.arrRef spec1 3) (by decide)).trans (congrFun (V10_eq m c) _)).symm)
  | 4 => ((dat1 (Ve1 m) c).arrAt_in 4 rfl _).trans ((A1_eq (Ve1 m) c 4).trans ((V11_of m (outsK m) c (Pipeline.arrRef spec1 4) (by decide)).trans (congrFun (V10_eq m c) _)).symm)
  | 5 => ((dat1 (Ve1 m) c).arrAt_in 5 rfl _).trans ((A1_eq (Ve1 m) c 5).trans ((V11_of m (outsK m) c (Pipeline.arrRef spec1 5) (by decide)).trans (congrFun (V10_eq m c) _)).symm)
  | 6 => (V11_at_main_v13_0 m c).symm
  | 7 => (V11_at_main_v13_1 m c).symm
  | 8 => (V11_at_main_v13_2 m c).symm
  | 9 => (V11_at_main_v13_3 m c).symm
  | 10 => (V11_at_main_v13_4 m c).symm
  | ⟨_ + 11, h⟩ => absurd h (Nat.not_lt.2 (Nat.le_add_left _ _))

set_option backward.isDefEq.respectTransparency.types false in
/-- Region 1 over the thread state: every unscoped buffer held, and the rest. -/
def reg1 : RegionSeg (pcfgs (F := F)) adm (pdats m) () defs₀ Variants.none Lv lvl 1 where
  win := (launch1).win.to₀
  block_pos := (launch1).block_pos
  stage_whole := (launch1).stage_whole
  K := PEmpty
  osem k := k.elim
  ho := Pipeline.OwnSemFacts.none _
  hbody c := (obligation1 (Ve1 m) c).loose
  hwaits := Pipeline.hwaits_of_owed_zero _ _ _ _ Lv lvl 1 fun _ _ => rfl
  pre c := iprop(StableHlo.held (c : Thread nD τ) (Pipeline.ucRefs τ sig) (V10 m (outsK m) c) ∗ rest c)
  post c := iprop(StableHlo.held (c : Thread nD τ) (Pipeline.ucRefs τ sig) (V11 m (outsK m) c) ∗ rest c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none, V10_eq, ← (Pipeline.unscopedBufs_held (Ix := Unit) (Name := ℕ) (U := UR sig nD τ) (Lvl := ℕ) c (V10 m (outs0 m) c))]
    have hsplit := Pipeline.arrays_of_unscopedBufs (p := 1) (pcfgs (F := F)) adm (pdats m) (launch1).win (launch1).arr_whole c
      ((pdats m 1 c).share_full fun _ => rfl) (Ve1 m c) fun _ => rfl
    unfold rest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp] <;> iassumption
  hin c := by
    rw [show (pdats m 1 c).Φ 0 = (dat1 (Ve1 m) c).Φ 0 from rfl]
    iintro ⟨Hp, -, Hr⟩
    iapply (in1 (Ve1 m) c)
    isplitl [Hr] <;> iassumption
  hout c := by
    rw [Pipeline.ownSems0_none, show (pdats m 1 c).Φ (Fin.last _) = (dat1 (Ve1 m) c).Φ (Fin.last _) from rfl]
    iintro H
    ihave H' := (out1 (Ve1 m) c) $$ H
    icases H' with ⟨Hr, Hp⟩
    isplitl [Hp]; · iexact Hp
    isplitr; · iempintro
    iexact Hr
  hexit c := by
    rw [← (Pipeline.unscopedBufs_held (Ix := Unit) (Name := ℕ) (U := UR sig nD τ) (Lvl := ℕ) c (V11 m (outsK m) c))]
    have hjoin := Pipeline.unscopedBufs_of_arrays (p := 1) (pcfgs (F := F)) adm (Ix := Unit) (Name := ℕ) (U := UR sig nD τ) (Lvl := ℕ) (launch1).win (launch1).arr_whole c
      (pdats m) ((pdats m 1 c).share_full fun _ => rfl) (Ve1 m c) (fun b => V11 m (outsK m) c (Proc.devRef .tc b)) ((pdats m 1 c).arrAt · cfg1.N)
      (fun w => leaves1 m c w)
      (fun b hb => by
        have h0 : b ≠ main_v13_0 := fun h => hb (h ▸ Finset.mem_image.mpr ⟨6, Finset.mem_univ _, rfl⟩)
        have h1 : b ≠ main_v13_1 := fun h => hb (h ▸ Finset.mem_image.mpr ⟨7, Finset.mem_univ _, rfl⟩)
        have h2 : b ≠ main_v13_2 := fun h => hb (h ▸ Finset.mem_image.mpr ⟨8, Finset.mem_univ _, rfl⟩)
        have h3 : b ≠ main_v13_3 := fun h => hb (h ▸ Finset.mem_image.mpr ⟨9, Finset.mem_univ _, rfl⟩)
        have h4 : b ≠ main_v13_4 := fun h => hb (h ▸ Finset.mem_image.mpr ⟨10, Finset.mem_univ _, rfl⟩)
        exact (V11_of m (outsK m) c b (by simp only [List.mem_cons, List.not_mem_nil, or_false, not_or]; exact ⟨h0, h1, h2, h3, h4⟩)).trans (congrFun (V10_eq m c) _))
    unfold rest
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The rest owes nothing. -/
theorem rest_owes (c : Dev nD) : rest c ⊢ (iprop(∃ W, owes (c : Thread nD τ) (0 : CellTallies nD τ sig Unit) W) : sProp 𝕄) := by
  unfold rest
  iintro ⟨-, H⟩
  iexact H

/-- The copy of the pipeline's algebra: the whole user algebra. -/
abbrev EPK : Emb (UR sig nD τ) 𝕄 := emb₁

/-- The element the launch starts from. -/
abbrev launchEl : UR sig nD τ := initOf (Pipeline.cells cfgs cellOf_inj) (Pipeline.launchToks cfgs cellOf_inj)

theorem launchEl_own : (ownU launchEl : sProp 𝕄) ⊢ |={Set.univ}=> iprop(BI.own (EPK (initOf (Pipeline.cells cfgs cellOf_inj) (Pipeline.launchToks cfgs cellOf_inj))) ∗ bigSep Finset.univ fun _ : Dev nD => (iprop(emp) : sProp 𝕄)) := by
  iintro Hu
  imodintro
  isplitl [Hu]; · iapply (show (ownU _ : sProp 𝕄) ⊢ BI.own (EPK (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

/-- The launch makes the rest on every core. -/
theorem launch_rest (ρ : Dev nD → PrngReg) :
    iprop((bigSep Finset.univ fun c : Dev nD => iprop(unscopedSems0 c ∗ owes (c : Thread nD τ) (0 : CellTallies nD τ sig Unit) ∅ ∗ Pipeline.launchCred (fun _ => 0) c ∗ prngReg c (ρ c) ∗ (emp : sProp 𝕄))) ∗ levAts Lv lvl)
      ⊢ (|={Set.univ}=> bigSep Finset.univ (fun c : Dev nD => rest c) : sProp 𝕄) := by
  have h1 : ∀ c : Dev nD, (iprop(unscopedSems0 c ∗ owes (c : Thread nD τ) (0 : CellTallies nD τ sig Unit) ∅ ∗ Pipeline.launchCred (fun _ => 0) c ∗ prngReg c (ρ c) ∗ emp) : sProp 𝕄) ⊢ rest c := fun c => by
    unfold rest
    iintro ⟨-, HO, -, Hp, -⟩
    isplitl [Hp]; · iexists _; iexact Hp
    iexists ∅; iexact HO
  have h : (bigSep Finset.univ fun c : Dev nD => iprop(unscopedSems0 c ∗ owes (c : Thread nD τ) (0 : CellTallies nD τ sig Unit) ∅ ∗ Pipeline.launchCred (fun _ => 0) c ∗ prngReg c (ρ c) ∗ (emp : sProp 𝕄)))
      ⊢ (bigSep Finset.univ (fun c : Dev nD => rest c) : sProp 𝕄) := bigSep_mono fun c _ => h1 c
  iintro ⟨H, -⟩
  ihave H' := h $$ H
  imodintro
  iexact H'

set_option backward.isDefEq.respectTransparency.types false in
/-- The run: from any memory with every counter at zero every fair execution ends, with every buffer of the program that lives
    outside the kernels at the computed contents and every counter at zero. -/
theorem run_values (ρ : Dev nD → PrngReg) :
    θ_run defs (onTc (τ := τ) (main (F := F))) ⟨m, fun _ => 0, ρ⟩ (fun r => (∀ c : Dev nD,
      ∀ b ∈ Pipeline.ucRefs τ sig, r.2.mem ((c : Thread nD τ).1, b) = V12 m (outsK m) c b) ∧ r.2.sem = fun _ => 0) := by
  refine Pipeline.θ_run_regions_kit_dev_sems (pcfgs (F := F)) adm (pdats m) () cellOf_inj EPK defs₀ Variants.none Lv lvl m ρ main
    (segs m (outsK m) Variants.none Lv lvl (fun _ => rest) () (pdats m) (reg0 m) (reg1 m))
    (fun c Q => by
      rewrite [main_chain c, Seg.run_eq_chain,
        show (segs m (outsK m) Variants.none Lv lvl (fun _ => rest) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl) (fun _ => iprop(emp)) launchEl launchEl_own
    (T₀ := fun c => iprop(StableHlo.held (c : Thread nD τ) (Pipeline.ucRefs τ sig) (V0 m c) ∗ rest c))
    (Tₙ := fun c => StableHlo.held (c : Thread nD τ) (Pipeline.ucRefs τ sig) (V12 m (outsK m) c))
    (hch := fun c => ⟨.rfl, .rfl, .rfl, .rfl, .rfl, .rfl, .rfl, .rfl, .rfl, .rfl, .rfl, .rfl, sep_mono .rfl (rest_owes c)⟩)
    (hinit := ?_) (QY := fun c s => ∀ b ∈ Pipeline.ucRefs τ sig, s.mem ((c : Thread nD τ).1, b) = V12 m (outsK m) c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ (emp : sProp 𝕄)))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod launch_rest ρ $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V12 m (outsK m) c) s') $$ [Hh HSI]
    · isplitl [Hh] <;> iassumption
    icases Hr with ⟨%h, HSI⟩
    imodintro
    isplitr
    · ipureintro
      exact h
    · iexact HSI

end Cert.KernelIdeal.Upd

end
-- ==== Proof.Frames.lean ====
/- The frames of the three programs and the named constants. Each frame is the program's run (the two kernels' by
   Proof/Bits/Run.lean and Proof/Ideal/Run.lean, the reference's by the operations it lists) read at the arguments, which
   nothing writes. -/
module

public import proofs.«01_k».proof.Defs
public import proofs.«01_k».proof.Proof.Gen.ReferenceIdeal
public import proofs.«01_k».proof.Proof.Gen.Pre_other_domains_empty
public import proofs.«01_k».proof.Proof.Gen.ReferenceIdeal.Run
public import proofs.«01_k».proof.Proof.Ideal.Run
public import proofs.«01_k».proof.Proof.Bits.Run
public import Idealize.ShloMosaic.Adequacy
public import Idealize.ShloMosaic.Init

@[expose] public section

noncomputable section

open Idealize.ShloMosaic Idealize.SL.Sem

namespace Cert.Frames

/-- The kernel, at its float words, ends with its arguments as they were and no semaphore raised. -/
theorem kernel : Cert.quiescent_Kernel := by
  intro m g _
  refine (θ_run Cert.Kernel.defs _ _).mono (fun r h => ⟨fun c => ?_, h.2⟩) (Cert.Kernel.Upd.run_values (F := Bits) m g)
  have at_ := fun (x : Ref Cert.Kernel.sig .tc) (hx : _) =>
    h.1 c (Proc.devRef .tc x) (Finset.mem_filter.mpr ⟨StableHlo.devRef_mem_tcRefs x, hx⟩)
  exact ⟨(at_ Cert.Kernel.main_arg0 (by decide)).trans (Cert.Kernel.Gen.V12_main_arg0 m _ c),
    (at_ Cert.Kernel.main_arg1 (by decide)).trans (Cert.Kernel.Gen.V12_main_arg1 m _ c),
    (at_ Cert.Kernel.main_arg2 (by decide)).trans (Cert.Kernel.Gen.V12_main_arg2 m _ c),
    (at_ Cert.Kernel.main_arg3 (by decide)).trans (Cert.Kernel.Gen.V12_main_arg3 m _ c),
    (at_ Cert.Kernel.main_arg4 (by decide)).trans (Cert.Kernel.Gen.V12_main_arg4 m _ c),
    (at_ Cert.Kernel.main_arg5 (by decide)).trans (Cert.Kernel.Gen.V12_main_arg5 m _ c),
    (at_ Cert.Kernel.main_arg6 (by decide)).trans (Cert.Kernel.Gen.V12_main_arg6 m _ c),
    (at_ Cert.Kernel.main_arg7 (by decide)).trans (Cert.Kernel.Gen.V12_main_arg7 m _ c)⟩

/-- The kernel over the reals likewise. -/
theorem kernelIdeal : Cert.quiescent_KernelIdeal := by
  intro m g _
  refine (θ_run Cert.KernelIdeal.defs _ _).mono (fun r h => ⟨fun c => ?_, h.2⟩) (Cert.KernelIdeal.Upd.run_values (F := Ideal) m g)
  have at_ := fun (x : Ref Cert.KernelIdeal.sig .tc) (hx : _) =>
    h.1 c (Proc.devRef .tc x) (Finset.mem_filter.mpr ⟨StableHlo.devRef_mem_tcRefs x, hx⟩)
  exact ⟨(at_ Cert.KernelIdeal.main_arg0 (by decide)).trans (Cert.KernelIdeal.Gen.V12_main_arg0 m _ c),
    (at_ Cert.KernelIdeal.main_arg1 (by decide)).trans (Cert.KernelIdeal.Gen.V12_main_arg1 m _ c),
    (at_ Cert.KernelIdeal.main_arg2 (by decide)).trans (Cert.KernelIdeal.Gen.V12_main_arg2 m _ c),
    (at_ Cert.KernelIdeal.main_arg3 (by decide)).trans (Cert.KernelIdeal.Gen.V12_main_arg3 m _ c),
    (at_ Cert.KernelIdeal.main_arg4 (by decide)).trans (Cert.KernelIdeal.Gen.V12_main_arg4 m _ c),
    (at_ Cert.KernelIdeal.main_arg5 (by decide)).trans (Cert.KernelIdeal.Gen.V12_main_arg5 m _ c),
    (at_ Cert.KernelIdeal.main_arg6 (by decide)).trans (Cert.KernelIdeal.Gen.V12_main_arg6 m _ c),
    (at_ Cert.KernelIdeal.main_arg7 (by decide)).trans (Cert.KernelIdeal.Gen.V12_main_arg7 m _ c)⟩

/-- The reference declares no semaphore, and none of its operations writes an argument. -/
theorem referenceIdeal : Cert.quiescent_ReferenceIdeal := by
  intro m g _
  exact (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m g)

/-- The frames hold of every memory, so of those of the precondition. -/
theorem kernelIdeal_pre : Cert.quiescent_KernelIdeal_pre_other_domains_empty := fun m g _ => kernelIdeal m g trivial

theorem referenceIdeal_pre : Cert.quiescent_ReferenceIdeal_pre_other_domains_empty := fun m g _ => referenceIdeal m g trivial

/-- The three literals of the momentum stand for `9/10`, `1/10` and `log (9/10)`. -/
theorem preserves : Cert.preserves_Kernel_KernelIdeal :=
  ⟨IdealRules.named_const.statement Cert.KernelIdeal.κ "m" .f32 0x3F666666#32 ((9 / 10 : ℝ) : EReal) rfl,
    IdealRules.named_const.statement Cert.KernelIdeal.κ "one_minus_m" .f32 0x3DCCCCCD#32 ((1 / 10 : ℝ) : EReal) rfl,
    IdealRules.named_const.statement Cert.KernelIdeal.κ "ln_m" .f32 0xBDD7C741#32 ((Real.log (9 / 10) : ℝ) : EReal) rfl⟩

end Cert.Frames

end
-- ==== Proof.Alg.Spec.lean ====
/- The update over the extended reals, one element at a time: a class's sums over the samples that carry its label, the
   moving average of a row, its step counter, and the prototype. The two programs spell the power of the momentum in two
   ways, `9/10 ^ s` and `exp (s * log (9/10))`; they agree at every step count from one on. -/
module

public import Idealize.ShloMosaic.PureOps.Ideal
public import Idealize.ShloMosaic.Lib.ValueIdxCore
public import Idealize.ShloMosaic.Lib.Routing.Shapes

@[expose] public section

noncomputable section

open scoped BigOperators
open Idealize.ShloMosaic Idealize.ShloMosaic.ValueIdx

namespace Cert.Alg

/-- The sum of `g` over the samples whose label is `c`. -/
def seg (lab : Fin 16384 → BitVec 32) (g : Fin 16384 → EReal) (c : Fin 1000) : EReal :=
  ∑ k : Fin 16384, if (lab k).toInt = (c.val : Int) then g k else 0

/-- The number of samples whose label is `c`. -/
def cnt (lab : Fin 16384 → BitVec 32) (c : Fin 1000) : EReal := seg lab (fun _ => 1) c

/-- The class occurs: its count is positive. -/
def has (n : EReal) : BitVec 1 := FloatOps.cmpf (F := Ideal) (φ := .f32) .ogt n 0

/-- The class was not seen before: its stored count is zero. -/
def fresh (pc : EReal) : BitVec 1 := FloatOps.cmpf (F := Ideal) (φ := .f32) .oeq pc 0

/-- A stored value after the update: the batch's own at a first visit, the moving average later, the old one without
    samples. -/
def mom (n pc s p : EReal) : EReal :=
  Scalar.select (has n) (Scalar.select (fresh pc) s (((9 / 10 : ℝ) : EReal) * p + ((1 / 10 : ℝ) : EReal) * s)) p

/-- The step counter after the update. -/
def step (n pc ps : EReal) : EReal := Scalar.select (has n) (Scalar.select (fresh pc) 1 (ps + 1)) ps

/-- The bias correction at a step count. -/
def bias (s : EReal) : EReal := 1 - Ideal.pow ((9 / 10 : ℝ) : EReal) (max s 1)

/-- The prototype after the update, from the updated sum `s'`, count `n'` and step `t'`. -/
def proto (n s' n' t' q : EReal) : EReal :=
  Scalar.select (has n) (Ideal.div (Ideal.div s' (bias t')) (max 1 (Ideal.div n' (bias t')))) q

/-- From one step on, the exponential of the step count times the logarithm of nine tenths is the power. -/
theorem exp_log_eq_pow (s : EReal) : Ideal.exp (max s 1 * ((Real.log (9 / 10) : ℝ) : EReal)) = Ideal.pow ((9 / 10 : ℝ) : EReal) (max s 1) := by
  have hlog : Real.log (9 / 10) < 0 := Real.log_neg (by norm_num) (by norm_num)
  have h1 : (1 : EReal) ≤ max s 1 := le_max_right _ _
  generalize max s 1 = x at h1
  induction x using EReal.rec with
  | bot => exact absurd h1 (not_le.2 (EReal.bot_lt_coe 1))
  | top =>
    rw [EReal.top_mul_coe_of_neg hlog]
    show (0 : EReal) = if (9 / 10 : ℝ) < 0 then ⊥ else if 1 < (9 / 10 : ℝ) then ⊤ else if (9 / 10 : ℝ) = 1 then 1 else 0
    norm_num
  | coe r =>
    rw [← EReal.coe_mul]
    show ((Real.exp (r * Real.log (9 / 10)) : ℝ) : EReal) = ((Real.rpow (9 / 10) r : ℝ) : EReal)
    rw [show Real.rpow (9 / 10) r = (9 / 10 : ℝ) ^ r from rfl, Real.rpow_def_of_pos (by norm_num), mul_comm]

end Cert.Alg

end
-- ==== Proof.Alg.Upd.lean ====
/- The grid's arithmetic at one element: what one point adds to the accumulators, and what the last point writes. -/
module

public import proofs.«01_k».proof.Proof.Alg.Spec
public import proofs.«01_k».proof.Proof.Ideal.Body0
public import Idealize.ShloMosaic.Lib.Pointwise
public import Idealize.ShloMosaic.Lib.IndicatorCount

@[expose] public section

noncomputable section

open scoped BigOperators

namespace Cert.Alg.Upd

open Idealize.ShloMosaic Cert.KernelIdeal Cert.KernelIdeal.Gen Cert.Alg

theorem named_m : Named.named (F := Ideal) κ "m" (φ := .f32) 1063675494#32 = ((9 / 10 : ℝ) : EReal) := rfl
theorem named_om : Named.named (F := Ideal) κ "one_minus_m" (φ := .f32) 1036831949#32 = ((1 / 10 : ℝ) : EReal) := rfl
theorem named_ln : Named.named (F := Ideal) κ "ln_m" (φ := .f32) 3185035073#32 = ((Real.log (9 / 10) : ℝ) : EReal) := rfl

theorem mom_eq (n pc s p : EReal) :
    mom n pc s p = if 0 < n then if pc = 0 then s else ((9 / 10 : ℝ) : EReal) * p + ((1 / 10 : ℝ) : EReal) * s else p := by
  unfold mom has fresh
  pointwise

theorem step_eq (n pc ps : EReal) : step n pc ps = if 0 < n then if pc = 0 then 1 else ps + 1 else ps := by
  unfold step has fresh
  pointwise

theorem proto_eq (n s' n' t' q : EReal) :
    proto n s' n' t' q = if 0 < n then Ideal.div (Ideal.div s' (bias t')) (max 1 (Ideal.div n' (bias t'))) else q := by
  unfold proto has
  pointwise

/-- Sample `k` of the block carries label `c`. -/
theorem mask_apply (lab : Vec Ideal S1x1x1024 .i16) (c : Fin 1000) (k : Fin 1024) :
    k0_pay3 (F := Ideal) lab (ix2 c k) = if lab (ix3 0 0 k) = BitVec.ofNat 16 c.val then 1#1 else 0#1 := by
  have h : k0_pay3 (F := Ideal) lab (ix2 c k) = Scalar.cmpi .eq (BitVec.ofNat 16 c.val) (lab (ix3 0 0 k)) := by
    pointwise [k0_pay3]; rfl
  rw [h]
  show BitVec.ofBool (BitVec.ofNat 16 c.val == lab (ix3 0 0 k)) = _
  by_cases e : lab (ix3 0 0 k) = BitVec.ofNat 16 c.val
  · rw [if_pos e, e, beq_self_eq_true]; rfl
  · rw [if_neg e, beq_false_of_ne (Ne.symm e)]; rfl

theorem word_one : (FloatOps.sitofp (F := Ideal) .f32 (BitVec.setWidth 32 (1#1 : BitVec 1)) : EReal) = 1 := by
  show (((BitVec.setWidth 32 (1#1 : BitVec 1)).toInt : ℝ) : EReal) = 1
  have h : (BitVec.setWidth 32 (1#1 : BitVec 1)).toInt = 1 := by decide
  rw [h]; simp

theorem word_zero : (FloatOps.sitofp (F := Ideal) .f32 (BitVec.setWidth 32 (0#1 : BitVec 1)) : EReal) = 0 := by
  show (((BitVec.setWidth 32 (0#1 : BitVec 1)).toInt : ℝ) : EReal) = 0
  have h : (BitVec.setWidth 32 (0#1 : BitVec 1)).toInt = 0 := by decide
  rw [h]; simp

/-- The weight of sample `k` in class `c`, times a value: the value, or zero. -/
theorem weight_mul (lab : Vec Ideal S1x1x1024 .i16) (c : Fin 1000) (k : Fin 1024) (v : EReal) :
    (FloatOps.sitofp (F := Ideal) .f32 (BitVec.setWidth 32 (k0_pay3 (F := Ideal) lab (ix2 c k))) : EReal) * v
      = if lab (ix3 0 0 k) = BitVec.ofNat 16 c.val then v else 0 := by
  rw [mask_apply]
  by_cases e : lab (ix3 0 0 k) = BitVec.ofNat 16 c.val
  · rw [if_pos e, if_pos e, word_one, one_mul]
  · rw [if_neg e, if_neg e, word_zero, zero_mul]

/-- A point adds the block's rows of the class to the left half of the wide accumulator, -/
theorem sum_lo (x : Vec Ideal S1024x128 .f32) (lab : Vec Ideal S1x1x1024 .i16) (s : Vec Ideal S1000x256 .f32) (c : Fin 1000) (j : Fin 256)
    (h : j.val < 128) :
    k0_pay4 (F := Ideal) x lab s (ix2 c j)
      = s (ix2 c j) + ∑ k : Fin 1024, if lab (ix3 0 0 k) = BitVec.ofNat 16 c.val then x (ix2 k ⟨j.val, h⟩) else 0 := by
  pointwise [k0_pay4]
  refine congrArg (s (ix2 c j) + ·) (Finset.sum_congr rfl fun k _ => ?_)
  rw [dif_pos h]
  exact weight_mul lab c k _

/-- and their squares to the right half. -/
theorem sum_hi (x : Vec Ideal S1024x128 .f32) (lab : Vec Ideal S1x1x1024 .i16) (s : Vec Ideal S1000x256 .f32) (c : Fin 1000) (j : Fin 256)
    (h : ¬ j.val < 128) :
    k0_pay4 (F := Ideal) x lab s (ix2 c j)
      = s (ix2 c j) + ∑ k : Fin 1024, if lab (ix3 0 0 k) = BitVec.ofNat 16 c.val
          then x (ix2 k ⟨j.val - 128, by have := j.isLt; omega⟩) * x (ix2 k ⟨j.val - 128, by have := j.isLt; omega⟩) else 0 := by
  pointwise [k0_pay4]
  refine congrArg (s (ix2 c j) + ·) (Finset.sum_congr rfl fun k _ => ?_)
  rw [dif_neg h]
  exact weight_mul lab c k _

/-- A point adds the number of the block's samples of the class to the count accumulator. -/
theorem count_step (lab : Vec Ideal S1x1x1024 .i16) (s : Vec Ideal S1000x1 .f32) (c : Fin 1000) :
    k0_pay5 (F := Ideal) lab s (ix2 c 0)
      = s (ix2 c 0) + ∑ k : Fin 1024, if lab (ix3 0 0 k) = BitVec.ofNat 16 c.val then (1 : EReal) else 0 := by
  pointwise [k0_pay5]
  refine congrArg (s (ix2 c 0) + ·) ?_
  rw [IndicatorCount.fold_addi_setWidth_eq_card]
  have hc : (Finset.univ.filter fun k : Fin 1024 => k0_pay3 (F := Ideal) lab (ix2 c k) = 1#1).card ≤ 1024 :=
    (Finset.card_le_univ _).trans (by simp)
  generalize hn : (Finset.univ.filter fun k : Fin 1024 => k0_pay3 (F := Ideal) lab (ix2 c k) = 1#1).card = n at hc
  have hw : (FloatOps.sitofp (F := Ideal) .f32 (BitVec.ofNat 32 n) : EReal) = (n : EReal) := by
    show (((BitVec.ofNat 32 n).toInt : ℝ) : EReal) = _
    rw [BitVec.toInt_ofNat', Int.bmod_eq_of_le (by omega) (by omega)]
    simp
  rw [hw, ← hn, Finset.sum_boole]
  refine congrArg (fun S : Finset (Fin 1024) => (S.card : EReal)) (Finset.filter_congr fun k _ => ?_)
  rw [mask_apply]
  by_cases e : lab (ix3 0 0 k) = BitVec.ofNat 16 c.val
  · rw [if_pos e]; exact ⟨fun _ => e, fun _ => rfl⟩
  · rw [if_neg e]; exact ⟨fun h => absurd h (by decide), fun h => absurd h e⟩

theorem zero_lo (i) : k0_pay1 (F := Ideal) i = 0 := by
  idx_vars i
  pointwise [k0_pay1]

theorem zero_cnt (i) : k0_pay2 (F := Ideal) i = 0 := by
  idx_vars i
  pointwise [k0_pay2]

/-! ## The last point -/

theorem sum_apply (s : Vec Ideal S1000x128 .f32) (n : Vec Ideal S1000x1 .f32) (p : Vec Ideal S1000x128 .f32) (pc : Vec Ideal S1000x1 .f32) (c : Fin 1000) (j : Fin 128) :
    k0_pay13 (F := Ideal) s n p pc (ix2 c j) = mom (n (ix2 c 0)) (pc (ix2 c 0)) (s (ix2 c j)) (p (ix2 c j)) := by
  rw [mom_eq]
  pointwise [k0_pay9, k0_pay11, k0_pay12, k0_pay13]
  rw [named_m, named_om]

theorem sq_apply (s : Vec Ideal S1000x128 .f32) (n : Vec Ideal S1000x1 .f32) (p : Vec Ideal S1000x128 .f32) (pc : Vec Ideal S1000x1 .f32) (c : Fin 1000) (j : Fin 128) :
    k0_pay14 (F := Ideal) s n p pc (ix2 c j) = mom (n (ix2 c 0)) (pc (ix2 c 0)) (s (ix2 c j)) (p (ix2 c j)) := by
  rw [mom_eq]
  pointwise [k0_pay9, k0_pay11, k0_pay12, k0_pay14]
  rw [named_m, named_om]

theorem cnt_apply (n pc : Vec Ideal S1000x1 .f32) (c : Fin 1000) :
    Cert.KernelIdeal.Upd.cntOut (F := Ideal) n pc (ix2 c 0) = mom (n (ix2 c 0)) (pc (ix2 c 0)) (n (ix2 c 0)) (pc (ix2 c 0)) := by
  rw [mom_eq]
  pointwise [Cert.KernelIdeal.Upd.cntOut, k0_pay6, k0_pay9, k0_pay11, k0_pay12, k0_pay15]
  rw [named_m, named_om]

theorem step_apply (n pc ps : Vec Ideal S1000x1 .f32) (c : Fin 1000) :
    Cert.KernelIdeal.Upd.stepOut (F := Ideal) n pc ps (ix2 c 0) = step (n (ix2 c 0)) (pc (ix2 c 0)) (ps (ix2 c 0)) := by
  rw [step_eq]
  pointwise [Cert.KernelIdeal.Upd.stepOut, k0_pay7, k0_pay9, k0_pay10, k0_pay11, k0_pay12]

theorem proto_apply (s : Vec Ideal S1000x128 .f32) (n : Vec Ideal S1000x1 .f32) (p : Vec Ideal S1000x128 .f32) (pc ps : Vec Ideal S1000x1 .f32)
    (q : Vec Ideal S1000x128 .f32) (c : Fin 1000) (j : Fin 128) :
    Cert.KernelIdeal.Upd.proto (F := Ideal) s n p pc ps q (ix2 c j)
      = Cert.Alg.proto (n (ix2 c 0)) (mom (n (ix2 c 0)) (pc (ix2 c 0)) (s (ix2 c j)) (p (ix2 c j)))
          (mom (n (ix2 c 0)) (pc (ix2 c 0)) (n (ix2 c 0)) (pc (ix2 c 0))) (step (n (ix2 c 0)) (pc (ix2 c 0)) (ps (ix2 c 0))) (q (ix2 c j)) := by
  rw [← sum_apply, ← cnt_apply, ← step_apply, proto_eq]
  unfold bias
  rw [← exp_log_eq_pow]
  pointwise [Cert.KernelIdeal.Upd.proto, Cert.KernelIdeal.Upd.cntOut, Cert.KernelIdeal.Upd.stepOut, k0_pay6, k0_pay7, k0_pay8, k0_pay9, k0_pay10, k0_pay11, k0_pay12, k0_pay15]
  rw [named_ln]

/-- A running total is the sum of its steps. -/
theorem total_of_steps (N : ℕ) (f : ℕ → EReal) (g : Fin N → EReal) (h0 : f 0 = 0) (hs : ∀ t : Fin N, f (t.val + 1) = f t.val + g t) :
    f N = ∑ t : Fin N, g t := by
  induction N with
  | zero => simpa using h0
  | succ N ih =>
    rw [Fin.sum_univ_castSucc, ← ih (fun t => g t.castSucc) (fun t => hs t.castSucc)]
    exact hs (Fin.last N)

end Cert.Alg.Upd
-- ==== Proof.Alg.Arr.lean ====
/- The blocks the two kernels read, as parts of their arrays, and the arrays they leave. -/
module

public import proofs.«01_k».proof.Proof.Alg.Upd
public import proofs.«01_k».proof.Proof.Ideal.Region0
public import proofs.«01_k».proof.Proof.Ideal.Region1
public import Idealize.ShloMosaic.Lib.Pipeline.ValueKit

@[expose] public section

noncomputable section

open scoped BigOperators

namespace Cert.Alg.Arr

open Idealize.ShloMosaic Idealize.ShloMosaic.TcCoe Cert.KernelIdeal Cert.KernelIdeal.Gen Cert.KernelIdeal.Upd

variable (V : (c : Dev nD) → (b : Ref sig .tc) → Buf (Elt Ideal) ((c : Thread nD τ).loc b)) (c : Dev nD)

/-! ## The first kernel's blocks -/

theorem at0 : ∀ t : Fin cfg0.N, win0_0.index t 0 = t.val ∧ win0_0.index t 1 = 0 ∧ win0_0.index t 2 = 0 := by decide +kernel
theorem at1 : ∀ t : Fin cfg0.N, win0_1.index t 0 = t.val ∧ win0_1.index t 1 = 0 := by decide +kernel

theorem lab_apply (t : Fin cfg0.N) (k : Fin 1024) (h : t.val < 16) :
    (iblk V c 0 t : S1x1x1024.Idx → BitVec 16) (ix3 0 0 k) = (V c main_v8 : S16x1x1024.Idx → BitVec 16) (ix3 ⟨t.val, h⟩ 0 k) := by
  blk_simp [iblk]
  refine congrArg (V c main_v8) (funext fun a => Fin.ext ?_)
  have hi := at0 t
  match a with
  | ⟨0, _⟩ => blk_simp; show win0_0.index t 0 + 0 = t.val; omega
  | ⟨1, _⟩ => blk_simp; show win0_0.index t 1 * 1 + 0 = 0; omega
  | ⟨2, _⟩ => blk_simp; show win0_0.index t 2 * 1024 + k.val = k.val; omega

theorem feat_apply (t : Fin cfg0.N) (k : Fin 1024) (j : Fin 128) (h : t.val * 1024 + k.val < 16384) :
    (iblk V c 1 t : S1024x128.Idx → EReal) (ix2 k j) = (V c main_arg0 : S16384x128.Idx → EReal) (ix2 ⟨t.val * 1024 + k.val, h⟩ j) := by
  blk_simp [iblk]
  refine congrArg (V c main_arg0) (funext fun a => Fin.ext ?_)
  have hi := at1 t
  match a with
  | ⟨0, _⟩ => blk_simp; show win0_1.index t 0 * 1024 + k.val = t.val * 1024 + k.val; rw [hi.1]
  | ⟨1, _⟩ => blk_simp; show win0_1.index t 1 * 128 + j.val = j.val; omega

theorem at2 : ∀ t : Fin cfg0.N, win0_2.index t 0 = 0 ∧ win0_2.index t 1 = 0 := by decide +kernel
theorem blk2 (t : Fin cfg0.N) : (iblk V c 2 t : S1000x128.Idx → EReal) = (V c main_v0 : S1000x128.Idx → EReal) := by
  funext i
  blk_simp [iblk]
  refine congrArg (V c main_v0) (funext fun a => Fin.ext ?_)
  have hi := at2 t
  match a with
  | ⟨0, _⟩ => blk_simp; show win0_2.index t 0 * 1000 + (i 0).val = (i 0).val; omega
  | ⟨1, _⟩ => blk_simp; show win0_2.index t 1 * 128 + (i 1).val = (i 1).val; omega

theorem at3 : ∀ t : Fin cfg0.N, win0_3.index t 0 = 0 ∧ win0_3.index t 1 = 0 := by decide +kernel
theorem blk3 (t : Fin cfg0.N) : (iblk V c 3 t : S1000x128.Idx → EReal) = (V c main_v1 : S1000x128.Idx → EReal) := by
  funext i
  blk_simp [iblk]
  refine congrArg (V c main_v1) (funext fun a => Fin.ext ?_)
  have hi := at3 t
  match a with
  | ⟨0, _⟩ => blk_simp; show win0_3.index t 0 * 1000 + (i 0).val = (i 0).val; omega
  | ⟨1, _⟩ => blk_simp; show win0_3.index t 1 * 128 + (i 1).val = (i 1).val; omega

theorem at4 : ∀ t : Fin cfg0.N, win0_4.index t 0 = 0 ∧ win0_4.index t 1 = 0 := by decide +kernel
theorem blk4 (t : Fin cfg0.N) : (iblk V c 4 t : S1000x1.Idx → EReal) = (V c main_v3 : S1000x1.Idx → EReal) := by
  funext i
  blk_simp [iblk]
  refine congrArg (V c main_v3) (funext fun a => Fin.ext ?_)
  have hi := at4 t
  match a with
  | ⟨0, _⟩ => blk_simp; show win0_4.index t 0 * 1000 + (i 0).val = (i 0).val; omega
  | ⟨1, _⟩ => blk_simp; exact hi.2

theorem at5 : ∀ t : Fin cfg0.N, win0_5.index t 0 = 0 ∧ win0_5.index t 1 = 0 := by decide +kernel
theorem blk5 (t : Fin cfg0.N) : (iblk V c 5 t : S1000x1.Idx → EReal) = (V c main_v5 : S1000x1.Idx → EReal) := by
  funext i
  blk_simp [iblk]
  refine congrArg (V c main_v5) (funext fun a => Fin.ext ?_)
  have hi := at5 t
  match a with
  | ⟨0, _⟩ => blk_simp; show win0_5.index t 0 * 1000 + (i 0).val = (i 0).val; omega
  | ⟨1, _⟩ => blk_simp; exact hi.2

theorem at6 : ∀ t : Fin cfg0.N, win0_6.index t 0 = 0 ∧ win0_6.index t 1 = 0 := by decide +kernel
theorem blk6 (t : Fin cfg0.N) : (iblk V c 6 t : S1000x128.Idx → EReal) = (V c main_v6 : S1000x128.Idx → EReal) := by
  funext i
  blk_simp [iblk]
  refine congrArg (V c main_v6) (funext fun a => Fin.ext ?_)
  have hi := at6 t
  match a with
  | ⟨0, _⟩ => blk_simp; show win0_6.index t 0 * 1000 + (i 0).val = (i 0).val; omega
  | ⟨1, _⟩ => blk_simp; show win0_6.index t 1 * 128 + (i 1).val = (i 1).val; omega

/-! ## The first kernel's arrays -/

theorem last_next : t0_15.val + 1 = 16 := rfl

theorem out7 : (dat0 V c).arrAt 7 cfg0.N = k0_pay13 (lo (accS V c 16)) (accN V c 16) (V c main_v0) (V c main_v3) := by
  refine (dat0 V c).arrAt_eq_of_after_last 7 t0_15 (by decide +kernel) _ fun j => ?_
  blk_simp
  rw [after0_7, blk2, blk4, last_next]

theorem out8 : (dat0 V c).arrAt 8 cfg0.N = k0_pay14 (hi (accS V c 16)) (accN V c 16) (V c main_v1) (V c main_v3) := by
  refine (dat0 V c).arrAt_eq_of_after_last 8 t0_15 (by decide +kernel) _ fun j => ?_
  blk_simp
  rw [after0_8, blk3, blk4, last_next]

theorem out9 : (dat0 V c).arrAt 9 cfg0.N = cntOut (accN V c 16) (V c main_v3) := by
  refine (dat0 V c).arrAt_eq_of_after_last 9 t0_15 (by decide +kernel) _ fun j => ?_
  blk_simp
  rw [after0_9, blk4, last_next]

theorem out10 : (dat0 V c).arrAt 10 cfg0.N = stepOut (accN V c 16) (V c main_v3) (V c main_v5) := by
  refine (dat0 V c).arrAt_eq_of_after_last 10 t0_15 (by decide +kernel) _ fun j => ?_
  blk_simp
  rw [after0_10, blk4, blk5, last_next]

theorem out11 : (dat0 V c).arrAt 11 cfg0.N = Cert.KernelIdeal.Upd.proto (lo (accS V c 16)) (accN V c 16) (V c main_v0) (V c main_v3) (V c main_v5) (V c main_v6) := by
  refine (dat0 V c).arrAt_eq_of_after_last 11 t0_15 (by decide +kernel) _ fun j => ?_
  blk_simp
  rw [after0_11, blk2, blk4, blk5, blk6, last_next]

/-! ## The second kernel's blocks -/

theorem at1_1 : ∀ t : Fin cfg1.N, win1_1.index t 0 = 0 ∧ win1_1.index t 1 = 0 := by decide +kernel
theorem blk1_1 (t : Fin cfg1.N) : (jblk V c 1 t : S1000x128.Idx → EReal) = (V c main_v9_0 : S1000x128.Idx → EReal) := by
  funext i
  blk_simp [jblk]
  refine congrArg (V c main_v9_0) (funext fun a => Fin.ext ?_)
  have hi := at1_1 t
  match a with
  | ⟨0, _⟩ => blk_simp; show win1_1.index t 0 * 1000 + (i 0).val = (i 0).val; omega
  | ⟨1, _⟩ => blk_simp; show win1_1.index t 1 * 128 + (i 1).val = (i 1).val; omega

theorem at1_2 : ∀ t : Fin cfg1.N, win1_2.index t 0 = 0 ∧ win1_2.index t 1 = 0 := by decide +kernel
theorem blk1_2 (t : Fin cfg1.N) : (jblk V c 2 t : S1000x128.Idx → EReal) = (V c main_v9_1 : S1000x128.Idx → EReal) := by
  funext i
  blk_simp [jblk]
  refine congrArg (V c main_v9_1) (funext fun a => Fin.ext ?_)
  have hi := at1_2 t
  match a with
  | ⟨0, _⟩ => blk_simp; show win1_2.index t 0 * 1000 + (i 0).val = (i 0).val; omega
  | ⟨1, _⟩ => blk_simp; show win1_2.index t 1 * 128 + (i 1).val = (i 1).val; omega

theorem at1_3 : ∀ t : Fin cfg1.N, win1_3.index t 0 = 0 ∧ win1_3.index t 1 = 0 := by decide +kernel
theorem blk1_3 (t : Fin cfg1.N) : (jblk V c 3 t : S1x1000.Idx → EReal) = (V c main_v10 : S1x1000.Idx → EReal) := by
  funext i
  blk_simp [jblk]
  refine congrArg (V c main_v10) (funext fun a => Fin.ext ?_)
  have hi := at1_3 t
  match a with
  | ⟨0, _⟩ => blk_simp; exact hi.1
  | ⟨1, _⟩ => blk_simp; show win1_3.index t 1 * 1000 + (i 1).val = (i 1).val; omega

theorem at1_4 : ∀ t : Fin cfg1.N, win1_4.index t 0 = 0 ∧ win1_4.index t 1 = 0 := by decide +kernel
theorem blk1_4 (t : Fin cfg1.N) : (jblk V c 4 t : S1x1000.Idx → EReal) = (V c main_v11 : S1x1000.Idx → EReal) := by
  funext i
  blk_simp [jblk]
  refine congrArg (V c main_v11) (funext fun a => Fin.ext ?_)
  have hi := at1_4 t
  match a with
  | ⟨0, _⟩ => blk_simp; exact hi.1
  | ⟨1, _⟩ => blk_simp; show win1_4.index t 1 * 1000 + (i 1).val = (i 1).val; omega

theorem at1_5 : ∀ t : Fin cfg1.N, win1_5.index t 0 = 0 ∧ win1_5.index t 1 = 0 := by decide +kernel
theorem blk1_5 (t : Fin cfg1.N) : (jblk V c 5 t : S1000x128.Idx → EReal) = (V c main_v9_4 : S1000x128.Idx → EReal) := by
  funext i
  blk_simp [jblk]
  refine congrArg (V c main_v9_4) (funext fun a => Fin.ext ?_)
  have hi := at1_5 t
  match a with
  | ⟨0, _⟩ => blk_simp; show win1_5.index t 0 * 1000 + (i 0).val = (i 0).val; omega
  | ⟨1, _⟩ => blk_simp; show win1_5.index t 1 * 128 + (i 1).val = (i 1).val; omega

theorem word_eq (w : BitVec 32) (hw : ∀ i, (V c main_v12 : S1x1.Idx → BitVec 32) i = w) (t : Fin cfg1.N) : word V c t = w := hw _

theorem coord1 : ∀ t : Fin cfg1.N, (grid1.coords t 0).val = t.val := by decide +kernel

/-- The bank a point's rows go to: the given rows at the word's domain, zero elsewhere. -/
def rows3 (w : BitVec 32) (x : S1000x128.Idx → EReal) : S50x1000x128.Idx → EReal := fun i =>
  Scalar.select (Scalar.cmpi .eq (BitVec.ofNat 32 (i 0).val) w) (x (ix2 (i 1) (i 2))) 0

/-- The same for one entry per class. -/
def rows2 (w : BitVec 32) (x : S1x1000.Idx → EReal) : S50x1x1000.Idx → EReal := fun i =>
  Scalar.select (Scalar.cmpi .eq (BitVec.ofNat 32 (i 0).val) w) (x (ix2 0 (i 2))) 0

theorem pick1 (t : Fin cfg1.N) (w : BitVec 32) (x : Vec Ideal S1000x128 .f32) (y0 : Fin 1) (cl : Fin 1000) (j : Fin 128) :
    k1_pay1 (Scalar.cmpi .eq (BitVec.ofNat 32 (grid1.coords t 0).val) w) x (ix3 y0 cl j)
      = Scalar.select (Scalar.cmpi .eq (BitVec.ofNat 32 t.val) w) (x (ix2 cl j)) 0 := by
  rw [← coord1 t]
  pointwise [k1_pay1]

theorem pick2 (t : Fin cfg1.N) (w : BitVec 32) (x : Vec Ideal S1000x128 .f32) (y0 : Fin 1) (cl : Fin 1000) (j : Fin 128) :
    k1_pay2 (grid1.coords t) w x (ix3 y0 cl j) = Scalar.select (Scalar.cmpi .eq (BitVec.ofNat 32 t.val) w) (x (ix2 cl j)) 0 := by
  rw [← coord1 t]
  pointwise [k1_pay2]
  try rfl

theorem pick3 (t : Fin cfg1.N) (w : BitVec 32) (x : Vec Ideal S1000x128 .f32) (y0 : Fin 1) (cl : Fin 1000) (j : Fin 128) :
    k1_pay3 (grid1.coords t) w x (ix3 y0 cl j) = Scalar.select (Scalar.cmpi .eq (BitVec.ofNat 32 t.val) w) (x (ix2 cl j)) 0 := by
  rw [← coord1 t]
  pointwise [k1_pay3]
  try rfl

theorem pick4 (t : Fin cfg1.N) (w : BitVec 32) (x : Vec Ideal S1x1000 .f32) (y0 y1 : Fin 1) (cl : Fin 1000) :
    k1_pay4 (grid1.coords t) w x (ix3 y0 y1 cl) = Scalar.select (Scalar.cmpi .eq (BitVec.ofNat 32 t.val) w) (x (ix2 0 cl)) 0 := by
  rw [← coord1 t]
  pointwise [k1_pay4]
  try rfl

theorem pick5 (t : Fin cfg1.N) (w : BitVec 32) (x : Vec Ideal S1x1000 .f32) (y0 y1 : Fin 1) (cl : Fin 1000) :
    k1_pay5 (grid1.coords t) w x (ix3 y0 y1 cl) = Scalar.select (Scalar.cmpi .eq (BitVec.ofNat 32 t.val) w) (x (ix2 0 cl)) 0 := by
  rw [← coord1 t]
  pointwise [k1_pay5]
  try rfl

theorem at1_6 : ∀ t : Fin cfg1.N, win1_6.index t 0 = t.val ∧ win1_6.index t 1 = 0 ∧ win1_6.index t 2 = 0 := by decide +kernel

theorem emb6 (t : Fin cfg1.N) (y0 : Fin 1) (y1 : Fin 1000) (y2 : Fin 128) : ((win1_6.blk t).view.emb (ix3 y0 y1 y2) : S50x1000x128.Idx) = ix3 ⟨t.val, t.isLt⟩ y1 y2 := by
  have hi := at1_6 t
  have h0 := y0.isLt
  refine funext fun a => Fin.ext ?_
  match a with
  | ⟨0, _⟩ => blk_simp; exact hi.1
  | ⟨1, _⟩ => blk_simp; show win1_6.index t 1 * 1000 + y1.val = y1.val; omega
  | ⟨2, _⟩ => blk_simp; show win1_6.index t 2 * 128 + y2.val = y2.val; omega

theorem res6 (w : BitVec 32) (hw : ∀ i, (V c main_v12 : S1x1.Idx → BitVec 32) i = w) :
    (dat1 V c).arrAt 6 cfg1.N = rows3 w (V c main_v9_0) := by
  refine (dat1 V c).arrAt_eq_of_covers 6 _ (by decide +kernel) fun t hf y => ?_
  idx_vars y
  rw [after1_6, word_eq V c w hw, blk1_1]
  refine Eq.trans ?_ (congrArg (rows3 w (V c main_v9_0)) (emb6 t y0 y1 y2)).symm
  exact pick2 t w _ y0 y1 y2

theorem at1_7 : ∀ t : Fin cfg1.N, win1_7.index t 0 = t.val ∧ win1_7.index t 1 = 0 ∧ win1_7.index t 2 = 0 := by decide +kernel

theorem emb7 (t : Fin cfg1.N) (y0 : Fin 1) (y1 : Fin 1000) (y2 : Fin 128) : ((win1_7.blk t).view.emb (ix3 y0 y1 y2) : S50x1000x128.Idx) = ix3 ⟨t.val, t.isLt⟩ y1 y2 := by
  have hi := at1_7 t
  have h0 := y0.isLt
  refine funext fun a => Fin.ext ?_
  match a with
  | ⟨0, _⟩ => blk_simp; exact hi.1
  | ⟨1, _⟩ => blk_simp; show win1_7.index t 1 * 1000 + y1.val = y1.val; omega
  | ⟨2, _⟩ => blk_simp; show win1_7.index t 2 * 128 + y2.val = y2.val; omega

theorem res7 (w : BitVec 32) (hw : ∀ i, (V c main_v12 : S1x1.Idx → BitVec 32) i = w) :
    (dat1 V c).arrAt 7 cfg1.N = rows3 w (V c main_v9_1) := by
  refine (dat1 V c).arrAt_eq_of_covers 7 _ (by decide +kernel) fun t hf y => ?_
  idx_vars y
  rw [after1_7, word_eq V c w hw, blk1_2]
  refine Eq.trans ?_ (congrArg (rows3 w (V c main_v9_1)) (emb7 t y0 y1 y2)).symm
  exact pick3 t w _ y0 y1 y2

theorem at1_8 : ∀ t : Fin cfg1.N, win1_8.index t 0 = t.val ∧ win1_8.index t 1 = 0 ∧ win1_8.index t 2 = 0 := by decide +kernel

theorem emb8 (t : Fin cfg1.N) (y0 y1 : Fin 1) (y2 : Fin 1000) : ((win1_8.blk t).view.emb (ix3 y0 y1 y2) : S50x1x1000.Idx) = ix3 ⟨t.val, t.isLt⟩ y1 y2 := by
  have hi := at1_8 t
  have h0 := y0.isLt
  refine funext fun a => Fin.ext ?_
  match a with
  | ⟨0, _⟩ => blk_simp; exact hi.1
  | ⟨1, _⟩ => blk_simp; exact hi.2.1
  | ⟨2, _⟩ => blk_simp; show win1_8.index t 2 * 1000 + y2.val = y2.val; omega

theorem res8 (w : BitVec 32) (hw : ∀ i, (V c main_v12 : S1x1.Idx → BitVec 32) i = w) :
    (dat1 V c).arrAt 8 cfg1.N = rows2 w (V c main_v10) := by
  refine (dat1 V c).arrAt_eq_of_covers 8 _ (by decide +kernel) fun t hf y => ?_
  idx_vars y
  rw [after1_8, word_eq V c w hw, blk1_3]
  refine Eq.trans ?_ (congrArg (rows2 w (V c main_v10)) (emb8 t y0 y1 y2)).symm
  exact pick4 t w _ y0 y1 y2

theorem at1_9 : ∀ t : Fin cfg1.N, win1_9.index t 0 = t.val ∧ win1_9.index t 1 = 0 ∧ win1_9.index t 2 = 0 := by decide +kernel

theorem emb9 (t : Fin cfg1.N) (y0 y1 : Fin 1) (y2 : Fin 1000) : ((win1_9.blk t).view.emb (ix3 y0 y1 y2) : S50x1x1000.Idx) = ix3 ⟨t.val, t.isLt⟩ y1 y2 := by
  have hi := at1_9 t
  have h0 := y0.isLt
  refine funext fun a => Fin.ext ?_
  match a with
  | ⟨0, _⟩ => blk_simp; exact hi.1
  | ⟨1, _⟩ => blk_simp; exact hi.2.1
  | ⟨2, _⟩ => blk_simp; show win1_9.index t 2 * 1000 + y2.val = y2.val; omega

theorem res9 (w : BitVec 32) (hw : ∀ i, (V c main_v12 : S1x1.Idx → BitVec 32) i = w) :
    (dat1 V c).arrAt 9 cfg1.N = rows2 w (V c main_v11) := by
  refine (dat1 V c).arrAt_eq_of_covers 9 _ (by decide +kernel) fun t hf y => ?_
  idx_vars y
  rw [after1_9, word_eq V c w hw, blk1_4]
  refine Eq.trans ?_ (congrArg (rows2 w (V c main_v11)) (emb9 t y0 y1 y2)).symm
  exact pick5 t w _ y0 y1 y2

theorem at1_10 : ∀ t : Fin cfg1.N, win1_10.index t 0 = t.val ∧ win1_10.index t 1 = 0 ∧ win1_10.index t 2 = 0 := by decide +kernel

theorem emb10 (t : Fin cfg1.N) (y0 : Fin 1) (y1 : Fin 1000) (y2 : Fin 128) : ((win1_10.blk t).view.emb (ix3 y0 y1 y2) : S50x1000x128.Idx) = ix3 ⟨t.val, t.isLt⟩ y1 y2 := by
  have hi := at1_10 t
  have h0 := y0.isLt
  refine funext fun a => Fin.ext ?_
  match a with
  | ⟨0, _⟩ => blk_simp; exact hi.1
  | ⟨1, _⟩ => blk_simp; show win1_10.index t 1 * 1000 + y1.val = y1.val; omega
  | ⟨2, _⟩ => blk_simp; show win1_10.index t 2 * 128 + y2.val = y2.val; omega

theorem res10 (w : BitVec 32) (hw : ∀ i, (V c main_v12 : S1x1.Idx → BitVec 32) i = w) :
    (dat1 V c).arrAt 10 cfg1.N = rows3 w (V c main_v9_4) := by
  refine (dat1 V c).arrAt_eq_of_covers 10 _ (by decide +kernel) fun t hf y => ?_
  idx_vars y
  rw [after1_10, word_eq V c w hw, blk1_5]
  refine Eq.trans ?_ (congrArg (rows3 w (V c main_v9_4)) (emb10 t y0 y1 y2)).symm
  exact pick1 t w _ y0 y1 y2

end Cert.Alg.Arr
-- ==== Proof.Alg.Rows.lean ====
/- One domain's rows read out of a bank, at any element type: the slice at a start that names the domain. -/
module

public import Idealize.ShloMosaic.PureOps
public import Idealize.ShloMosaic.Lib.ValueIdxCore

@[expose] public section

noncomputable section

open Idealize.ShloMosaic Idealize.ShloMosaic.ValueIdx

namespace Cert.Alg

/-- Domain `d`'s rows of a bank of rows. -/
theorem slice3 {α : Type} (x : (⟨3, ![50, 1000, 128]⟩ : Shape).Idx → α) (st : Fin 3 → Int)
    (h : (⟨3, ![50, 1000, 128]⟩ : Shape).Slices (fun _ => 0) ⟨3, ![1, 1000, 128]⟩) (d : Fin 50) (h0 : st 0 = (d.val : Int)) (h1 : st 1 = 0) (h2 : st 2 = 0)
    (c : Fin 1000) (j : Fin 128) : Host.dynamicSlice ⟨3, ![1, 1000, 128]⟩ x st h (ix3 0 c j) = x (ix3 d c j) := by
  have hd := d.isLt
  unfold Host.dynamicSlice extractStridedSlice
  refine congrArg x (funext fun a => Fin.ext ?_)
  match a with
  | ⟨0, _⟩ =>
    show (min (max (st 0) 0) ((50 - 1 : ℕ) : Int)).toNat + 0 = d.val
    rw [h0]; omega
  | ⟨1, _⟩ =>
    show (min (max (st 1) 0) ((1000 - 1000 : ℕ) : Int)).toNat + c.val = c.val
    rw [h1]; omega
  | ⟨2, _⟩ =>
    show (min (max (st 2) 0) ((128 - 128 : ℕ) : Int)).toNat + j.val = j.val
    rw [h2]; omega

/-- Domain `d`'s entries of a bank of scalars. -/
theorem slice2 {α : Type} (x : (⟨2, ![50, 1000]⟩ : Shape).Idx → α) (st : Fin 2 → Int)
    (h : (⟨2, ![50, 1000]⟩ : Shape).Slices (fun _ => 0) ⟨2, ![1, 1000]⟩) (d : Fin 50) (h0 : st 0 = (d.val : Int)) (h1 : st 1 = 0)
    (c : Fin 1000) : Host.dynamicSlice ⟨2, ![1, 1000]⟩ x st h (ix2 0 c) = x (ix2 d c) := by
  have hd := d.isLt
  unfold Host.dynamicSlice extractStridedSlice
  refine congrArg x (funext fun a => Fin.ext ?_)
  match a with
  | ⟨0, _⟩ =>
    show (min (max (st 0) 0) ((50 - 1 : ℕ) : Int)).toNat + 0 = d.val
    rw [h0]; omega
  | ⟨1, _⟩ =>
    show (min (max (st 1) 0) ((1000 - 1000 : ℕ) : Int)).toNat + c.val = c.val
    rw [h1]; omega

end Cert.Alg

end
-- ==== Proof.Alg.Host.lean ====
/- What the host operations between the kernels leave in the buffers the kernels read: the domain's rows, its columns of
   counts, the labels cut to the points. -/
module

public import proofs.«01_k».proof.Proof.Alg.Rows
public import proofs.«01_k».proof.Proof.Ideal.Run
public import Idealize.ShloMosaic.Lib.StableHlo.ReadAt

@[expose] public section

noncomputable section

namespace Cert.Alg.Host

open Idealize.ShloMosaic Idealize.ShloMosaic.TcCoe Idealize.ShloMosaic.StableHlo Cert.KernelIdeal Cert.KernelIdeal.Gen

variable (V : Valuation τ sig (Elt Ideal))

theorem drop3 {α : Type} (y : S1x1000x128.Idx → α) (h : S1x1000x128.ShapeCasts S1000x128) (cl : Fin 1000) (j : Fin 128) :
    shapeCast S1000x128 y h (ix2 cl j) = y (ix3 0 cl j) := by pointwise

theorem labels_read (t : Fin 16) (k : Fin 1024) :
    (after hostOps0_7 V (Proc.devRef .tc main_v8) : S16x1x1024.Idx → BitVec 16) (ix3 t 0 k)
      = BitVec.setWidth 16 ((V (Proc.devRef .tc main_arg6) : S16384.Idx → BitVec 32) (ix1 ⟨t.val * 1024 + k.val, by omega⟩)) := by
  after_reads_at

/-- A domain number that is not negative stays as it is where a negative one would count from the end. -/
theorem word_wrap (w : BitVec 32) (e : Fin 50) (he : w.toInt = (e.val : Int)) :
    (Scalar.select (Scalar.cmpi .slt w 0#32) (w + 50#32) w).toInt = (e.val : Int) := by
  have h : Scalar.cmpi .slt w 0#32 = 0#1 := by
    show BitVec.ofBool (w.slt 0#32) = 0#1
    have : w.slt 0#32 = false := by
      rw [BitVec.slt_eq_decide]
      simp [he]
    rw [this]; rfl
  rw [h]; exact he

theorem drop2 {α : Type} (y : S1x1000.Idx → α) (h : S1x1000.ShapeCasts S1000) (cl : Fin 1000) :
    shapeCast S1000 y h (ix1 cl) = y (ix2 0 cl) := by pointwise

theorem col {α : Type} (y : S1000.Idx → α) (h : S1000.ShapeCasts S1000x1) (cl : Fin 1000) :
    shapeCast S1000x1 y h (ix2 cl 0) = y (ix1 cl) := by pointwise

variable (e : Fin 50) (he : ((V (Proc.devRef .tc main_arg7) : S_.Idx → BitVec 32) (Shape.Idx.first h_S_)).toInt = (e.val : Int))

include he in
theorem psum_read (cl : Fin 1000) (j : Fin 128) :
    (after hostOps0 V (Proc.devRef .tc main_v0) : S1000x128.Idx → EReal) (ix2 cl j) = (V (Proc.devRef .tc main_arg1) : S50x1000x128.Idx → EReal) (ix3 e cl j) := by
  after_reads_simp
  refine (drop3 _ _ cl j).trans ?_
  refine slice3 (V (Proc.devRef .tc main_arg1) : S50x1000x128.Idx → EReal) _ sliceFits_S50x1000x128_S1x1000x128 e ?_ ?_ ?_ cl j
  · dsimp only [Matrix.cons_val_zero]
    after_reads_simp
    exact word_wrap _ e he
  · dsimp only [Matrix.cons_val_one, Matrix.cons_val_zero]
    after_reads_simp
    rfl
  · dsimp only [Matrix.cons_val]
    after_reads_simp
    rfl

include he in
theorem psq_read (cl : Fin 1000) (j : Fin 128) :
    (after hostOps0_1 V (Proc.devRef .tc main_v1) : S1000x128.Idx → EReal) (ix2 cl j) = (V (Proc.devRef .tc main_arg2) : S50x1000x128.Idx → EReal) (ix3 e cl j) := by
  after_reads_simp
  refine (drop3 _ _ cl j).trans ?_
  refine slice3 (V (Proc.devRef .tc main_arg2) : S50x1000x128.Idx → EReal) _ sliceFits_S50x1000x128_S1x1000x128 e ?_ ?_ ?_ cl j
  · dsimp only [Matrix.cons_val_zero]
    after_reads_simp
    exact word_wrap _ e he
  · dsimp only [Matrix.cons_val_one, Matrix.cons_val_zero]
    after_reads_simp
    rfl
  · dsimp only [Matrix.cons_val]
    after_reads_simp
    rfl

include he in
theorem pcnt_read (cl : Fin 1000) :
    (after hostOps0_2 V (Proc.devRef .tc main_v2) : S1000.Idx → EReal) (ix1 cl) = (V (Proc.devRef .tc main_arg3) : S50x1000.Idx → EReal) (ix2 e cl) := by
  after_reads_simp
  refine (drop2 _ _ cl).trans ?_
  refine slice2 (V (Proc.devRef .tc main_arg3) : S50x1000.Idx → EReal) _ sliceFits_S50x1000_S1x1000 e ?_ ?_ cl
  · dsimp only [Matrix.cons_val_zero]
    after_reads_simp
    exact word_wrap _ e he
  · dsimp only [Matrix.cons_val_one, Matrix.cons_val_zero]
    after_reads_simp
    rfl

include he in
theorem pstep_read (cl : Fin 1000) :
    (after hostOps0_4 V (Proc.devRef .tc main_v4) : S1000.Idx → EReal) (ix1 cl) = (V (Proc.devRef .tc main_arg4) : S50x1000.Idx → EReal) (ix2 e cl) := by
  after_reads_simp
  refine (drop2 _ _ cl).trans ?_
  refine slice2 (V (Proc.devRef .tc main_arg4) : S50x1000.Idx → EReal) _ sliceFits_S50x1000_S1x1000 e ?_ ?_ cl
  · dsimp only [Matrix.cons_val_zero]
    after_reads_simp
    exact word_wrap _ e he
  · dsimp only [Matrix.cons_val_one, Matrix.cons_val_zero]
    after_reads_simp
    rfl

include he in
theorem pproto_read (cl : Fin 1000) (j : Fin 128) :
    (after hostOps0_6 V (Proc.devRef .tc main_v6) : S1000x128.Idx → EReal) (ix2 cl j) = (V (Proc.devRef .tc main_arg5) : S50x1000x128.Idx → EReal) (ix3 e cl j) := by
  after_reads_simp
  refine (drop3 _ _ cl j).trans ?_
  refine slice3 (V (Proc.devRef .tc main_arg5) : S50x1000x128.Idx → EReal) _ sliceFits_S50x1000x128_S1x1000x128 e ?_ ?_ ?_ cl j
  · dsimp only [Matrix.cons_val_zero]
    after_reads_simp
    exact word_wrap _ e he
  · dsimp only [Matrix.cons_val_one, Matrix.cons_val_zero]
    after_reads_simp
    rfl
  · dsimp only [Matrix.cons_val]
    after_reads_simp
    rfl

theorem col3 (cl : Fin 1000) :
    (after hostOps0_3 V (Proc.devRef .tc main_v3) : S1000x1.Idx → EReal) (ix2 cl 0) = (V (Proc.devRef .tc main_v2) : S1000.Idx → EReal) (ix1 cl) := by
  after_reads_simp
  exact col _ _ cl

theorem col5 (cl : Fin 1000) :
    (after hostOps0_5 V (Proc.devRef .tc main_v5) : S1000x1.Idx → EReal) (ix2 cl 0) = (V (Proc.devRef .tc main_v4) : S1000.Idx → EReal) (ix1 cl) := by
  after_reads_simp
  exact col _ _ cl

theorem turn {α : Type} (y : S1000x1.Idx → α) (h : S1000x1.ShapeCasts S1x1000) (cl : Fin 1000) :
    shapeCast S1x1000 y h (ix2 0 cl) = y (ix2 cl 0) := by pointwise

theorem row10 (cl : Fin 1000) :
    (after hostOps1 V (Proc.devRef .tc main_v10) : S1x1000.Idx → EReal) (ix2 0 cl) = (V (Proc.devRef .tc main_v9_2) : S1000x1.Idx → EReal) (ix2 cl 0) := by
  after_reads_simp
  exact turn _ _ cl

theorem row11 (cl : Fin 1000) :
    (after hostOps1 V (Proc.devRef .tc main_v11) : S1x1000.Idx → EReal) (ix2 0 cl) = (V (Proc.devRef .tc main_v9_3) : S1000x1.Idx → EReal) (ix2 cl 0) := by
  after_reads_simp
  exact turn _ _ cl

theorem word12 (i : S1x1.Idx) :
    (after hostOps1 V (Proc.devRef .tc main_v12) : S1x1.Idx → BitVec 32) i = (V (Proc.devRef .tc main_arg7) : S_.Idx → BitVec 32) (Shape.Idx.first h_S_) := by
  after_reads_simp
  exact congrArg (V (Proc.devRef .tc main_arg7) : S_.Idx → BitVec 32) (funext fun a : Fin 0 => a.elim0)

theorem flat {α : Type} (y : S50x1x1000.Idx → α) (h : S50x1x1000.ShapeCasts S50x1000) (d : Fin 50) (cl : Fin 1000) :
    shapeCast S50x1000 y h (ix2 d cl) = y (ix3 d 0 cl) := by pointwise

theorem out14 (d : Fin 50) (cl : Fin 1000) :
    (after hostOps2 V (Proc.devRef .tc main_v14) : S50x1000.Idx → EReal) (ix2 d cl) = (V (Proc.devRef .tc main_v13_2) : S50x1x1000.Idx → EReal) (ix3 d 0 cl) := by
  after_reads_simp
  exact flat _ _ d cl

theorem out15 (d : Fin 50) (cl : Fin 1000) :
    (after hostOps2 V (Proc.devRef .tc main_v15) : S50x1000.Idx → EReal) (ix2 d cl) = (V (Proc.devRef .tc main_v13_3) : S50x1x1000.Idx → EReal) (ix3 d 0 cl) := by
  after_reads_simp
  exact flat _ _ d cl

end Cert.Alg.Host
-- ==== Proof.Alg.Pre.lean ====
/- What the precondition says of one element: the labels name classes, the word names a domain, and the rows of the other
   domains are zero. -/
module

public import proofs.«01_k».proof.Defs
public import proofs.«01_k».proof.Proof.Gen.Pre_other_domains_empty
public import Idealize.ShloMosaic.Lib.Pointwise

@[expose] public section

noncomputable section

namespace Cert.Alg.Pre

open Idealize.ShloMosaic Cert.Pre_other_domains_empty

theorem and_bits : ∀ p q : Bool, (BitVec.ofBool p &&& BitVec.ofBool q) = 1#1 → p = true ∧ q = true := by decide
theorem or_bits : ∀ p q : Bool, (BitVec.ofBool p ||| BitVec.ofBool q) = 1#1 → p = true ∨ q = true := by decide

/-- A word at least 0 and below another, as the two comparisons' conjunction says it. -/
theorem range_of (w n : BitVec 32) (h : IntOp.andi (IntOp.cmpi .sge w 0#32) (IntOp.cmpi .slt w n) = 1#1) :
    0 ≤ w.toInt ∧ w.toInt < n.toInt := by
  have h' := and_bits ((0#32).sle w) (w.slt n) h
  rw [BitVec.sle_eq_decide, BitVec.slt_eq_decide] at h'
  exact ⟨by simpa using h'.1, by simpa using h'.2⟩

theorem toInt_small (n : ℕ) (h : n < 2 ^ 31) : (BitVec.ofNat 32 n).toInt = (n : Int) := by
  rw [BitVec.toInt_eq_toNat_cond, BitVec.toNat_ofNat, Nat.mod_eq_of_lt (by omega), if_pos (by omega)]

/-- A row's test that fails on the domain holds of the entry. -/
theorem zero_of (w : BitVec 32) (d : Fin 50) (z : EReal) (hd : w.toInt ≠ (d.val : Int))
    (h : IntOp.ori (IntOp.cmpi .eq (BitVec.ofNat 32 d.val) w) (BitVec.ofBool (decide (z = 0))) = 1#1) : z = 0 := by
  rcases or_bits (BitVec.ofNat 32 d.val == w) (decide (z = 0)) h with h1 | h1
  · exfalso
    apply hd
    rw [← eq_of_beq h1]
    exact toInt_small d.val (by have := d.isLt; omega)
  · exact of_decide_eq_true h1

variable (x0 : FVec Ideal S16384x128 .f32) (x1 x2 : FVec Ideal S50x1000x128 .f32) (x3 x4 : FVec Ideal S50x1000 .f32) (x5 : FVec Ideal S50x1000x128 .f32)
  (x6 : IVec S16384 32) (x7 : IVec S_ 32)

/-- Every label names a class. -/
theorem labels (h : (fn (F := Ideal) x0 x1 x2 x3 x4 x5 x6 x7).1 = fun _ => 1#1) (k : Fin 16384) :
    0 ≤ (x6 (ix1 k)).toInt ∧ (x6 (ix1 k)).toInt < 1000 := by
  have h := congrFun h (ix1 k)
  pointwise [fn, fn_part1] at h
  exact range_of _ _ h

/-- The word names a domain. -/
theorem domain (h : (fn (F := Ideal) x0 x1 x2 x3 x4 x5 x6 x7).2.1 = fun _ => 1#1) :
    ∃ e : Fin 50, (x7 ix0).toInt = (e.val : Int) := by
  have h := congrFun h ix0
  pointwise [fn, fn_part1] at h
  have hr := range_of _ _ h
  have h2 : (x7 ix0).toInt < 50 := hr.2
  exact ⟨⟨(x7 ix0).toInt.toNat, by omega⟩, by simp [hr.1]⟩

/-- The rows of the other domains are zero in operand 1. -/
theorem zero1 (h : (fn (F := Ideal) x0 x1 x2 x3 x4 x5 x6 x7).2.2.1 = fun _ => 1#1) (d : Fin 50) (c : Fin 1000) (j : Fin 128)
    (hd : (x7 ix0).toInt ≠ (d.val : Int)) : x1 (ix3 d c j) = 0 := by
  have h := congrFun h (ix3 d c j)
  pointwise [fn, fn_part1] at h
  exact zero_of _ d _ hd h

/-- The rows of the other domains are zero in operand 2. -/
theorem zero2 (h : (fn (F := Ideal) x0 x1 x2 x3 x4 x5 x6 x7).2.2.2.1 = fun _ => 1#1) (d : Fin 50) (c : Fin 1000) (j : Fin 128)
    (hd : (x7 ix0).toInt ≠ (d.val : Int)) : x2 (ix3 d c j) = 0 := by
  have h := congrFun h (ix3 d c j)
  pointwise [fn, fn_part1] at h
  exact zero_of _ d _ hd h

/-- The rows of the other domains are zero in operand 3. -/
theorem zero3 (h : (fn (F := Ideal) x0 x1 x2 x3 x4 x5 x6 x7).2.2.2.2.1 = fun _ => 1#1) (d : Fin 50) (c : Fin 1000)
    (hd : (x7 ix0).toInt ≠ (d.val : Int)) : x3 (ix2 d c) = 0 := by
  have h := congrFun h (ix2 d c)
  pointwise [fn, fn_part1] at h
  exact zero_of _ d _ hd h

/-- The rows of the other domains are zero in operand 4. -/
theorem zero4 (h : (fn (F := Ideal) x0 x1 x2 x3 x4 x5 x6 x7).2.2.2.2.2.1 = fun _ => 1#1) (d : Fin 50) (c : Fin 1000)
    (hd : (x7 ix0).toInt ≠ (d.val : Int)) : x4 (ix2 d c) = 0 := by
  have h := congrFun h (ix2 d c)
  pointwise [fn, fn_part1] at h
  exact zero_of _ d _ hd h

/-- The rows of the other domains are zero in operand 5. -/
theorem zero5 (h : (fn (F := Ideal) x0 x1 x2 x3 x4 x5 x6 x7).2.2.2.2.2.2 = fun _ => 1#1) (d : Fin 50) (c : Fin 1000) (j : Fin 128)
    (hd : (x7 ix0).toInt ≠ (d.val : Int)) : x5 (ix3 d c j) = 0 := by
  have h := congrFun h (ix3 d c j)
  pointwise [fn, fn_part1] at h
  exact zero_of _ d _ hd h

end Cert.Alg.Pre
-- ==== Proof.Alg.Ker.lean ====
/- The kernel's five results at an element: the grid's totals as sums over the samples of a class, the rows the host reads
   for the batch's domain, and the banks the second kernel leaves. -/
module

public import proofs.«01_k».proof.Proof.Alg.Arr
public import proofs.«01_k».proof.Proof.Alg.Host
public import proofs.«01_k».proof.Proof.Alg.Pre
public import proofs.«01_k».proof.Proof.Ideal.Run
public import Idealize.ShloMosaic.Lib.Pipeline.ValueKit

@[expose] public section

noncomputable section

open scoped BigOperators

namespace Cert.Alg.Ker

open Idealize.ShloMosaic Idealize.ShloMosaic.TcCoe Cert.KernelIdeal Cert.KernelIdeal.Gen Cert.KernelIdeal.Upd

/-- A label in range meets a class in the narrow words exactly when it is the class. -/
theorem hit (w : BitVec 32) (cl : Fin 1000) (h0 : 0 ≤ w.toInt) (h1 : w.toInt < 1000) :
    BitVec.setWidth 16 w = BitVec.ofNat 16 cl.val ↔ w.toInt = (cl.val : Int) := by
  have hc := cl.isLt
  have hw := w.isLt
  rw [BitVec.toInt_eq_toNat_cond] at h0 h1 ⊢
  have hn : w.toNat < 1000 := by
    by_cases h : 2 * w.toNat < 2 ^ 32
    · rw [if_pos h] at h1; omega
    · rw [if_neg h] at h0; omega
  rw [if_pos (by omega)]
  constructor
  · intro h
    have h := congrArg BitVec.toNat h
    rw [BitVec.toNat_setWidth, BitVec.toNat_ofNat] at h
    omega
  · intro h
    apply BitVec.eq_of_toNat_eq
    rw [BitVec.toNat_setWidth, BitVec.toNat_ofNat]
    omega

/-! ## The grid's totals -/

section totals

variable (V : (c : Dev nD) → (b : Ref sig .tc) → Buf (Elt Ideal) ((c : Thread nD τ).loc b)) (c : Dev nD)
  (lab : Fin 16384 → BitVec 32) (hl : ∀ k, 0 ≤ (lab k).toInt ∧ (lab k).toInt < 1000)
  (A : S16384x128.Idx → EReal) (hA : (V c main_arg0 : S16384x128.Idx → EReal) = A)
  (hv : ∀ (t : Fin 16) (k : Fin 1024), (V c main_v8 : S16x1x1024.Idx → BitVec 16) (ix3 t 0 k)
    = BitVec.setWidth 16 (lab ⟨t.val * 1024 + k.val, by omega⟩))

/-- Grid point `t`. -/
def pt (t : Fin 16) : Fin cfg0.N := ⟨t.val, t.isLt⟩

theorem lo_apply (s : Vec Ideal S1000x256 .f32) (cl : Fin 1000) (j : Fin 128) : lo s (ix2 cl j) = s (ix2 cl ⟨j.val, by omega⟩) := by
  refine congrArg s (funext fun a => Fin.ext ?_)
  match a with
  | ⟨0, _⟩ => show 0 + 1 * cl.val = cl.val; omega
  | ⟨1, _⟩ => show 0 + 1 * j.val = j.val; omega

theorem hi_apply (s : Vec Ideal S1000x256 .f32) (cl : Fin 1000) (j : Fin 128) : hi s (ix2 cl j) = s (ix2 cl ⟨128 + j.val, by omega⟩) := by
  refine congrArg s (funext fun a => Fin.ext ?_)
  match a with
  | ⟨0, _⟩ => show 0 + 1 * cl.val = cl.val; omega
  | ⟨1, _⟩ => show 128 + 1 * j.val = 128 + j.val; omega

include hl hv

/-- One point's part of a class's sum, in the labels of the whole batch. -/
theorem part (g : Fin 16384 → EReal) (cl : Fin 1000) (t : Fin 16) (x : Fin 1024 → EReal)
    (hx : ∀ k : Fin 1024, x k = g ⟨t.val * 1024 + k.val, by omega⟩) :
    (∑ k : Fin 1024, if (iblk V c 0 (pt t) : S1x1x1024.Idx → BitVec 16) (ix3 0 0 k) = BitVec.ofNat 16 cl.val then x k else 0)
      = ∑ k : Fin 1024, (fun l : Fin 16384 => if (lab l).toInt = (cl.val : Int) then g l else 0) ⟨t.val * 1024 + k.val, by omega⟩ := by
  refine Finset.sum_congr rfl fun k _ => ?_
  rw [Arr.lab_apply V c (pt t) k t.isLt, hx k]
  have h := hit (lab ⟨t.val * 1024 + k.val, by omega⟩) cl (hl _).1 (hl _).2
  rw [← hv t k] at h
  exact if_congr h rfl rfl

include hA

theorem total_lo (cl : Fin 1000) (j : Fin 128) :
    lo (accS V c 16) (ix2 cl j) = seg lab (fun k => A (ix2 k j)) cl := by
  have hj : (⟨j.val, by omega⟩ : Fin 256).val < 128 := j.isLt
  rw [lo_apply]
  refine (Upd.total_of_steps 16 (fun n => accS V c n (ix2 cl ⟨j.val, by omega⟩)) _ (Upd.zero_lo _) fun t => ?_).trans
    (Fin.sum_mul_add_fin 16 1024 (fun l : Fin 16384 => if (lab l).toInt = (cl.val : Int) then A (ix2 l j) else 0))
  refine (congrFun (accS_succ V c (pt t)) _).trans ((Upd.sum_lo _ _ _ cl _ hj).trans ?_)
  refine congrArg (_ + ·) (part V c lab hl hv (fun l => A (ix2 l j)) cl t _ fun k => ?_)
  exact (Arr.feat_apply V c (pt t) k j (by show t.val * 1024 + k.val < 16384; omega)).trans (congrFun hA _)

theorem total_hi (cl : Fin 1000) (j : Fin 128) :
    hi (accS V c 16) (ix2 cl j)
      = seg lab (fun k => A (ix2 k j) * A (ix2 k j)) cl := by
  have hj : ¬ (⟨128 + j.val, by omega⟩ : Fin 256).val < 128 := by show ¬ 128 + j.val < 128; omega
  rw [hi_apply]
  refine (Upd.total_of_steps 16 (fun n => accS V c n (ix2 cl ⟨128 + j.val, by omega⟩)) _ (Upd.zero_lo _) fun t => ?_).trans
    (Fin.sum_mul_add_fin 16 1024 (fun l : Fin 16384 => if (lab l).toInt = (cl.val : Int)
      then A (ix2 l j) * A (ix2 l j) else 0))
  refine (congrFun (accS_succ V c (pt t)) _).trans ((Upd.sum_hi _ _ _ cl _ hj).trans ?_)
  refine congrArg (_ + ·) (part V c lab hl hv
    (fun l => A (ix2 l j) * A (ix2 l j)) cl t _ fun k => ?_)
  have hf := (Arr.feat_apply V c (pt t) k j (by show t.val * 1024 + k.val < 16384; omega)).trans (congrFun hA _)
  have hjj : (⟨128 + j.val - 128, by omega⟩ : Fin 128) = j := Fin.ext (by show 128 + j.val - 128 = j.val; omega)
  have hf' := (congrArg (fun q => (iblk V c 1 (pt t) : S1024x128.Idx → EReal) (ix2 k q)) hjj).trans hf
  exact congrArg₂ (· * ·) hf' hf'

omit hA

theorem total_cnt (cl : Fin 1000) : accN V c 16 (ix2 cl 0) = cnt lab cl := by
  refine (Upd.total_of_steps 16 (fun n => accN V c n (ix2 cl 0)) _ (Upd.zero_cnt _) fun t => ?_).trans
    (Fin.sum_mul_add_fin 16 1024 (fun l : Fin 16384 => if (lab l).toInt = (cl.val : Int) then (1 : EReal) else 0))
  refine (congrFun (accN_succ V c (pt t)) _).trans ((Upd.count_step _ _ cl).trans ?_)
  exact congrArg (_ + ·) (part V c lab hl hv (fun _ => 1) cl t _ fun k => rfl)

end totals

/-! ## The host's reads -/

section reads

variable (m : (ℓ : Loc nD τ sig) → Buf (Elt Ideal) ℓ) (c : Dev nD)

/-- The operands as launched. -/
abbrev A0 : S16384x128.Idx → EReal := m ((c : Thread nD τ).loc main_arg0)
abbrev A1 : S50x1000x128.Idx → EReal := m ((c : Thread nD τ).loc main_arg1)
abbrev A2 : S50x1000x128.Idx → EReal := m ((c : Thread nD τ).loc main_arg2)
abbrev A3 : S50x1000.Idx → EReal := m ((c : Thread nD τ).loc main_arg3)
abbrev A4 : S50x1000.Idx → EReal := m ((c : Thread nD τ).loc main_arg4)
abbrev A5 : S50x1000x128.Idx → EReal := m ((c : Thread nD τ).loc main_arg5)
abbrev A6 : S16384.Idx → BitVec 32 := m ((c : Thread nD τ).loc main_arg6)
abbrev A7 : S_.Idx → BitVec 32 := m ((c : Thread nD τ).loc main_arg7)

/-- The labels, one per sample. -/
abbrev lab (k : Fin 16384) : BitVec 32 := A6 m c (ix1 k)

theorem read_feat : V8 m c (Proc.devRef .tc main_arg0) = A0 m c := (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))

theorem read_labels (t : Fin 16) (k : Fin 1024) : (V8 m c (Proc.devRef .tc main_v8) : S16x1x1024.Idx → BitVec 16) (ix3 t 0 k)
    = BitVec.setWidth 16 (lab m c ⟨t.val * 1024 + k.val, by omega⟩) := by
  have h : V7 m c (Proc.devRef .tc main_arg6) = A6 m c := (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))
  exact (Host.labels_read (V7 m c) t k).trans (congrArg (BitVec.setWidth 16) (congrFun h _))

variable (e : Fin 50) (he : (A7 m c (Shape.Idx.first h_S_)).toInt = (e.val : Int))

include he

theorem read_sum (cl : Fin 1000) (j : Fin 128) : (Ve0 m c main_v0 : S1000x128.Idx → EReal) (ix2 cl j) = A1 m c (ix3 e cl j) := by
  have hw : V0 m c (Proc.devRef .tc main_arg7) = A7 m c := rfl
  have ha : V0 m c (Proc.devRef .tc main_arg1) = A1 m c := rfl
  have hv : V8 m c (Proc.devRef .tc main_v0) = V1 m c (Proc.devRef .tc main_v0) := (V8_of m c main_v0 (by decide)).trans <| (V7_of m c main_v0 (by decide)).trans <| (V6_of m c main_v0 (by decide)).trans <| (V5_of m c main_v0 (by decide)).trans <| (V4_of m c main_v0 (by decide)).trans <| (V3_of m c main_v0 (by decide)).trans <| (V2_of m c main_v0 (by decide))
  exact (congrFun hv _).trans ((Host.psum_read (V0 m c) e ((congrArg BitVec.toInt (congrFun hw _)).trans he) cl j).trans (congrFun ha _))

theorem read_sq (cl : Fin 1000) (j : Fin 128) : (Ve0 m c main_v1 : S1000x128.Idx → EReal) (ix2 cl j) = A2 m c (ix3 e cl j) := by
  have hw : V1 m c (Proc.devRef .tc main_arg7) = A7 m c := (V1_of m c main_arg7 (by decide))
  have ha : V1 m c (Proc.devRef .tc main_arg2) = A2 m c := (V1_of m c main_arg2 (by decide))
  have hv : V8 m c (Proc.devRef .tc main_v1) = V2 m c (Proc.devRef .tc main_v1) := (V8_of m c main_v1 (by decide)).trans <| (V7_of m c main_v1 (by decide)).trans <| (V6_of m c main_v1 (by decide)).trans <| (V5_of m c main_v1 (by decide)).trans <| (V4_of m c main_v1 (by decide)).trans <| (V3_of m c main_v1 (by decide))
  exact (congrFun hv _).trans ((Host.psq_read (V1 m c) e ((congrArg BitVec.toInt (congrFun hw _)).trans he) cl j).trans (congrFun ha _))

theorem read_proto (cl : Fin 1000) (j : Fin 128) : (Ve0 m c main_v6 : S1000x128.Idx → EReal) (ix2 cl j) = A5 m c (ix3 e cl j) := by
  have hw : V6 m c (Proc.devRef .tc main_arg7) = A7 m c := (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))
  have ha : V6 m c (Proc.devRef .tc main_arg5) = A5 m c := (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
  have hv : V8 m c (Proc.devRef .tc main_v6) = V7 m c (Proc.devRef .tc main_v6) := (V8_of m c main_v6 (by decide))
  exact (congrFun hv _).trans ((Host.pproto_read (V6 m c) e ((congrArg BitVec.toInt (congrFun hw _)).trans he) cl j).trans (congrFun ha _))

theorem read_cnt (cl : Fin 1000) : (Ve0 m c main_v3 : S1000x1.Idx → EReal) (ix2 cl 0) = A3 m c (ix2 e cl) := by
  have hw : V2 m c (Proc.devRef .tc main_arg7) = A7 m c := (V2_of m c main_arg7 (by decide)).trans <| (V1_of m c main_arg7 (by decide))
  have ha : V2 m c (Proc.devRef .tc main_arg3) = A3 m c := (V2_of m c main_arg3 (by decide)).trans <| (V1_of m c main_arg3 (by decide))
  have hv : V8 m c (Proc.devRef .tc main_v3) = V4 m c (Proc.devRef .tc main_v3) := (V8_of m c main_v3 (by decide)).trans <| (V7_of m c main_v3 (by decide)).trans <| (V6_of m c main_v3 (by decide)).trans <| (V5_of m c main_v3 (by decide))
  exact (congrFun hv _).trans ((Host.col3 (V3 m c) cl).trans
    ((Host.pcnt_read (V2 m c) e ((congrArg BitVec.toInt (congrFun hw _)).trans he) cl).trans (congrFun ha _)))

theorem read_step (cl : Fin 1000) : (Ve0 m c main_v5 : S1000x1.Idx → EReal) (ix2 cl 0) = A4 m c (ix2 e cl) := by
  have hw : V4 m c (Proc.devRef .tc main_arg7) = A7 m c := (V4_of m c main_arg7 (by decide)).trans <| (V3_of m c main_arg7 (by decide)).trans <| (V2_of m c main_arg7 (by decide)).trans <| (V1_of m c main_arg7 (by decide))
  have ha : V4 m c (Proc.devRef .tc main_arg4) = A4 m c := (V4_of m c main_arg4 (by decide)).trans <| (V3_of m c main_arg4 (by decide)).trans <| (V2_of m c main_arg4 (by decide)).trans <| (V1_of m c main_arg4 (by decide))
  have hv : V8 m c (Proc.devRef .tc main_v5) = V6 m c (Proc.devRef .tc main_v5) := (V8_of m c main_v5 (by decide)).trans <| (V7_of m c main_v5 (by decide))
  exact (congrFun hv _).trans ((Host.col5 (V5 m c) cl).trans
    ((Host.pstep_read (V4 m c) e ((congrArg BitVec.toInt (congrFun hw _)).trans he) cl).trans (congrFun ha _)))

end reads

/-! ## The batch's rows, as the first kernel leaves them -/

section rows

variable (m : (ℓ : Loc nD τ sig) → Buf (Elt Ideal) ℓ) (c : Dev nD) (e : Fin 50) (he : (A7 m c (Shape.Idx.first h_S_)).toInt = (e.val : Int))
  (hl : ∀ k, 0 ≤ (lab m c k).toInt ∧ (lab m c k).toInt < 1000)

include he hl

theorem row_sum (cl : Fin 1000) (j : Fin 128) : ((dat0 (Ve0 m) c).arrAt 7 cfg0.N : S1000x128.Idx → EReal) (ix2 cl j)
    = mom (cnt (lab m c) cl) (A3 m c (ix2 e cl)) (seg (lab m c) (fun k => A0 m c (ix2 k j)) cl) (A1 m c (ix3 e cl j)) := by
  refine (congrFun (Arr.out7 (Ve0 m) c) _).trans ((Upd.sum_apply _ _ _ _ cl j).trans ?_)
  rw [total_lo (Ve0 m) c (lab m c) hl (A0 m c) (read_feat m c) (read_labels m c) cl j, total_cnt (Ve0 m) c (lab m c) hl (read_labels m c) cl, read_sum m c e he cl j, read_cnt m c e he cl]

theorem row_sq (cl : Fin 1000) (j : Fin 128) : ((dat0 (Ve0 m) c).arrAt 8 cfg0.N : S1000x128.Idx → EReal) (ix2 cl j)
    = mom (cnt (lab m c) cl) (A3 m c (ix2 e cl)) (seg (lab m c) (fun k => A0 m c (ix2 k j) * A0 m c (ix2 k j)) cl) (A2 m c (ix3 e cl j)) := by
  refine (congrFun (Arr.out8 (Ve0 m) c) _).trans ((Upd.sq_apply _ _ _ _ cl j).trans ?_)
  rw [total_hi (Ve0 m) c (lab m c) hl (A0 m c) (read_feat m c) (read_labels m c) cl j, total_cnt (Ve0 m) c (lab m c) hl (read_labels m c) cl, read_sq m c e he cl j, read_cnt m c e he cl]

theorem row_cnt (cl : Fin 1000) : ((dat0 (Ve0 m) c).arrAt 9 cfg0.N : S1000x1.Idx → EReal) (ix2 cl 0)
    = mom (cnt (lab m c) cl) (A3 m c (ix2 e cl)) (cnt (lab m c) cl) (A3 m c (ix2 e cl)) := by
  refine (congrFun (Arr.out9 (Ve0 m) c) _).trans ((Upd.cnt_apply _ _ cl).trans ?_)
  rw [total_cnt (Ve0 m) c (lab m c) hl (read_labels m c) cl, read_cnt m c e he cl]

theorem row_step (cl : Fin 1000) : ((dat0 (Ve0 m) c).arrAt 10 cfg0.N : S1000x1.Idx → EReal) (ix2 cl 0)
    = step (cnt (lab m c) cl) (A3 m c (ix2 e cl)) (A4 m c (ix2 e cl)) := by
  refine (congrFun (Arr.out10 (Ve0 m) c) _).trans ((Upd.step_apply _ _ _ cl).trans ?_)
  rw [total_cnt (Ve0 m) c (lab m c) hl (read_labels m c) cl, read_cnt m c e he cl, read_step m c e he cl]

theorem row_proto (cl : Fin 1000) (j : Fin 128) : ((dat0 (Ve0 m) c).arrAt 11 cfg0.N : S1000x128.Idx → EReal) (ix2 cl j)
    = proto (cnt (lab m c) cl) (mom (cnt (lab m c) cl) (A3 m c (ix2 e cl)) (seg (lab m c) (fun k => A0 m c (ix2 k j)) cl) (A1 m c (ix3 e cl j))) (mom (cnt (lab m c) cl) (A3 m c (ix2 e cl)) (cnt (lab m c) cl) (A3 m c (ix2 e cl))) (step (cnt (lab m c) cl) (A3 m c (ix2 e cl)) (A4 m c (ix2 e cl))) (A5 m c (ix3 e cl j)) := by
  refine (congrFun (Arr.out11 (Ve0 m) c) _).trans ((Upd.proto_apply _ _ _ _ _ _ cl j).trans ?_)
  rw [total_lo (Ve0 m) c (lab m c) hl (A0 m c) (read_feat m c) (read_labels m c) cl j, total_cnt (Ve0 m) c (lab m c) hl (read_labels m c) cl, read_sum m c e he cl j, read_cnt m c e he cl, read_step m c e he cl, read_proto m c e he cl j]

end rows

/-! ## The banks -/

theorem pick {α : Type} (w : BitVec 32) (d e : Fin 50) (he : w.toInt = (e.val : Int)) (x y : α) :
    Scalar.select (Scalar.cmpi .eq (BitVec.ofNat 32 d.val) w) x y = if d = e then x else y := by
  have hb : (BitVec.ofNat 32 d.val == w) = decide (d = e) := by
    rw [Bool.eq_iff_iff, beq_iff_eq, decide_eq_true_iff]
    have hd := d.isLt
    constructor
    · rintro rfl
      rw [Pre.toInt_small d.val (by omega)] at he
      exact Fin.ext (by omega)
    · rintro rfl
      apply BitVec.eq_of_toInt_eq
      rw [Pre.toInt_small d.val (by omega), he]
  show (if BitVec.ofBool (BitVec.ofNat 32 d.val == w) = 1#1 then x else y) = _
  rw [hb]
  by_cases h : d = e <;> simp [h]

section banks

variable (m : (ℓ : Loc nD τ sig) → Buf (Elt Ideal) ℓ) (c : Dev nD)

theorem word (i : S1x1.Idx) : (Ve1 m c main_v12 : S1x1.Idx → BitVec 32) i = A7 m c (Shape.Idx.first h_S_) := by
  have hw : V9 m (outsK m) c (Proc.devRef .tc main_arg7) = A7 m c := (V9_of m (outsK m) c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))
  show V10 m (outs0 m) c (Proc.devRef .tc main_v12) i = _
  rw [← V10_eq]
  exact (Host.word12 (V9 m (outsK m) c) i).trans (congrFun hw _)

theorem from_0 : Ve1 m c main_v9_0 = (dat0 (Ve0 m) c).arrAt 7 cfg0.N := by
  show V10 m (outs0 m) c (Proc.devRef .tc main_v9_0) = _
  rw [← V10_eq]
  exact (V10_of m (outsK m) c main_v9_0 (by decide)).trans (V9_at_main_v9_0 m c)

theorem from_1 : Ve1 m c main_v9_1 = (dat0 (Ve0 m) c).arrAt 8 cfg0.N := by
  show V10 m (outs0 m) c (Proc.devRef .tc main_v9_1) = _
  rw [← V10_eq]
  exact (V10_of m (outsK m) c main_v9_1 (by decide)).trans (V9_at_main_v9_1 m c)

theorem from_4 : Ve1 m c main_v9_4 = (dat0 (Ve0 m) c).arrAt 11 cfg0.N := by
  show V10 m (outs0 m) c (Proc.devRef .tc main_v9_4) = _
  rw [← V10_eq]
  exact (V10_of m (outsK m) c main_v9_4 (by decide)).trans (V9_at_main_v9_4 m c)

theorem from_2 (cl : Fin 1000) : (Ve1 m c main_v10 : S1x1000.Idx → EReal) (ix2 0 cl) = ((dat0 (Ve0 m) c).arrAt 9 cfg0.N : S1000x1.Idx → EReal) (ix2 cl 0) := by
  show V10 m (outs0 m) c (Proc.devRef .tc main_v10) (ix2 0 cl) = _
  rw [← V10_eq]
  exact (Host.row10 (V9 m (outsK m) c) cl).trans (congrFun (V9_at_main_v9_2 m c) _)

theorem from_3 (cl : Fin 1000) : (Ve1 m c main_v11 : S1x1000.Idx → EReal) (ix2 0 cl) = ((dat0 (Ve0 m) c).arrAt 10 cfg0.N : S1000x1.Idx → EReal) (ix2 cl 0) := by
  show V10 m (outs0 m) c (Proc.devRef .tc main_v11) (ix2 0 cl) = _
  rw [← V10_eq]
  exact (Host.row11 (V9 m (outsK m) c) cl).trans (congrFun (V9_at_main_v9_3 m c) _)

variable (e : Fin 50) (he : (A7 m c (Shape.Idx.first h_S_)).toInt = (e.val : Int)) (hl : ∀ k, 0 ≤ (lab m c k).toInt ∧ (lab m c k).toInt < 1000)

include he hl

theorem bank_sum (d : Fin 50) (cl : Fin 1000) (j : Fin 128) :
    (V12 m (outsK m) c (Proc.devRef .tc main_v13_0) : S50x1000x128.Idx → EReal) (ix3 d cl j)
      = if d = e then mom (cnt (lab m c) cl) (A3 m c (ix2 e cl)) (seg (lab m c) (fun k => A0 m c (ix2 k j)) cl) (A1 m c (ix3 e cl j)) else 0 := by
  refine (congrFun ((V12_of m (outsK m) c main_v13_0 (by decide)).trans ((V11_at_main_v13_0 m c).trans (Arr.res6 (Ve1 m) c _ (word m c)))) _).trans ?_
  refine (pick _ d e he _ _).trans ?_
  exact if_congr Iff.rfl ((congrFun (from_0 m c) _).trans (row_sum m c e he hl cl j)) rfl

theorem bank_sq (d : Fin 50) (cl : Fin 1000) (j : Fin 128) :
    (V12 m (outsK m) c (Proc.devRef .tc main_v13_1) : S50x1000x128.Idx → EReal) (ix3 d cl j)
      = if d = e then mom (cnt (lab m c) cl) (A3 m c (ix2 e cl)) (seg (lab m c) (fun k => A0 m c (ix2 k j) * A0 m c (ix2 k j)) cl) (A2 m c (ix3 e cl j)) else 0 := by
  refine (congrFun ((V12_of m (outsK m) c main_v13_1 (by decide)).trans ((V11_at_main_v13_1 m c).trans (Arr.res7 (Ve1 m) c _ (word m c)))) _).trans ?_
  refine (pick _ d e he _ _).trans ?_
  exact if_congr Iff.rfl ((congrFun (from_1 m c) _).trans (row_sq m c e he hl cl j)) rfl

theorem bank_proto (d : Fin 50) (cl : Fin 1000) (j : Fin 128) :
    (V12 m (outsK m) c (Proc.devRef .tc main_v13_4) : S50x1000x128.Idx → EReal) (ix3 d cl j)
      = if d = e then proto (cnt (lab m c) cl) (mom (cnt (lab m c) cl) (A3 m c (ix2 e cl)) (seg (lab m c) (fun k => A0 m c (ix2 k j)) cl) (A1 m c (ix3 e cl j))) (mom (cnt (lab m c) cl) (A3 m c (ix2 e cl)) (cnt (lab m c) cl) (A3 m c (ix2 e cl))) (step (cnt (lab m c) cl) (A3 m c (ix2 e cl)) (A4 m c (ix2 e cl))) (A5 m c (ix3 e cl j)) else 0 := by
  refine (congrFun ((V12_of m (outsK m) c main_v13_4 (by decide)).trans ((V11_at_main_v13_4 m c).trans (Arr.res10 (Ve1 m) c _ (word m c)))) _).trans ?_
  refine (pick _ d e he _ _).trans ?_
  exact if_congr Iff.rfl ((congrFun (from_4 m c) _).trans (row_proto m c e he hl cl j)) rfl

theorem bank_cnt (d : Fin 50) (cl : Fin 1000) :
    (V12 m (outsK m) c (Proc.devRef .tc main_v14) : S50x1000.Idx → EReal) (ix2 d cl)
      = if d = e then mom (cnt (lab m c) cl) (A3 m c (ix2 e cl)) (cnt (lab m c) cl) (A3 m c (ix2 e cl)) else 0 := by
  refine (Host.out14 (V11 m (outsK m) c) d cl).trans ?_
  refine (congrFun ((V11_at_main_v13_2 m c).trans (Arr.res8 (Ve1 m) c _ (word m c))) _).trans ?_
  refine (pick _ d e he _ _).trans ?_
  exact if_congr Iff.rfl ((from_2 m c cl).trans (row_cnt m c e he hl cl)) rfl

theorem bank_step (d : Fin 50) (cl : Fin 1000) :
    (V12 m (outsK m) c (Proc.devRef .tc main_v15) : S50x1000.Idx → EReal) (ix2 d cl)
      = if d = e then step (cnt (lab m c) cl) (A3 m c (ix2 e cl)) (A4 m c (ix2 e cl)) else 0 := by
  refine (Host.out15 (V11 m (outsK m) c) d cl).trans ?_
  refine (congrFun ((V11_at_main_v13_3 m c).trans (Arr.res9 (Ve1 m) c _ (word m c))) _).trans ?_
  refine (pick _ d e he _ _).trans ?_
  exact if_congr Iff.rfl ((from_3 m c cl).trans (row_step m c e he hl cl)) rfl

end banks

end Cert.Alg.Ker
-- ==== Proof.Alg.Ref.lean ====
/- The reference's five results at an element. -/
module

public import proofs.«01_k».proof.Proof.Alg.Spec
public import proofs.«01_k».proof.Proof.Alg.Rows
public import proofs.«01_k».proof.Proof.Gen.ReferenceIdeal.Read
public import Idealize.ShloMosaic.Lib.Routing.OpsSet
public import Idealize.ShloMosaic.Lib.Routing.OpsPair
public import Idealize.ShloMosaic.Lib.DynamicIndex
public import Idealize.ShloMosaic.Lib.ValueIdx
public import Idealize.ShloMosaic.Lib.IdealHost
public import Idealize.ShloMosaic.Lib.Pointwise

@[expose] public section

noncomputable section

open scoped BigOperators
open Idealize.ShloMosaic hiding ix0 ix1 ix2 ix3 eq_ix1 eq_ix2 eq_ix3 sum_idx2
open Idealize.ShloMosaic.ValueIdx Idealize.ShloMosaic.Routing

namespace Cert.Alg.Ref

open Cert.ReferenceIdeal Cert.ReferenceIdeal.Gen Cert.ReferenceIdeal.Read

/-- Sample `k`'s row lands on row `c` exactly when its label is `c`, its lane unchanged. -/
theorem lands2 (idx : IVec S16384x1 32) (k : Fin 16384) (j' j : Fin 128) (c : Fin 1000) :
    scatter_S1000x128_S16384x1_S16384x128_1_0_0_1.resultIdx? (ix2 k j') idx = some (ix2 c j)
      ↔ (idx (ix2 k 0)).toInt = (c.val : Int) ∧ j' = j := by
  set d := scatter_S1000x128_S16384x1_S16384x128_1_0_0_1 with hd
  have hs0 : d.start (ix2 k j') idx 0 = (idx (ix2 k 0)).toInt := by
    unfold ScatterDims.start
    rw [dif_pos (by decide)]
    congr 2
    funext b
    match b with
    | ⟨0, _⟩ => rfl
    | ⟨1, _⟩ => exact Subsingleton.elim (α := Fin 1) _ _
  have hs1 : d.start (ix2 k j') idx 1 = 0 := by
    unfold ScatterDims.start
    rw [dif_neg (by decide)]
  have hw0 : d.window (ix2 k j') 0 = 0 := by
    unfold ScatterDims.window
    rw [dif_neg (by decide)]
  have hw1 : d.window (ix2 k j') 1 = j'.val := by
    unfold ScatterDims.window
    rw [dif_pos (by decide)]
    rfl
  rw [resultIdx?_ix2, hs0, hs1, hw0, hw1, Fin.ext_iff]
  omega

/-- Sample `k` lands on entry `c` exactly when its label is `c`. -/
theorem lands1 (idx : IVec S16384x1 32) (k : Fin 16384) (c : Fin 1000) :
    scatter_S1000_S16384x1_S16384_n_0_0_1.resultIdx? (ix1 k) idx = some (ix1 c) ↔ (idx (ix2 k 0)).toInt = (c.val : Int) := by
  set d := scatter_S1000_S16384x1_S16384_n_0_0_1 with hd
  have hs0 : d.start (ix1 k) idx 0 = (idx (ix2 k 0)).toInt := by
    unfold ScatterDims.start
    rw [dif_pos (by decide)]
    congr 2
    funext b
    match b with
    | ⟨0, _⟩ => rfl
    | ⟨1, _⟩ => exact Subsingleton.elim (α := Fin 1) _ _
  have hw0 : d.window (ix1 k) 0 = 0 := by
    unfold ScatterDims.window
    rw [dif_neg (by decide)]
  rw [resultIdx?_ix1, hs0, hw0]
  omega

/-- The accumulating scatter of rows: the operand's element plus the lane's sum over the samples of its class. -/
theorem scatterAdd2 (x : S1000x128.Idx → EReal) (idx : IVec S16384x1 32) (u : S16384x128.Idx → EReal) (c : Fin 1000) (j : Fin 128) :
    Host.scatterAdd (F := Ideal) (φ := .f32) scatter_S1000x128_S16384x1_S16384x128_1_0_0_1 x idx u (ix2 c j)
      = x (ix2 c j) + seg (fun k => idx (ix2 k 0)) (fun k => u (ix2 k j)) c := by
  show x (ix2 c j) + ∑ q ∈ Finset.univ.filter (fun q => scatter_S1000x128_S16384x1_S16384x128_1_0_0_1.resultIdx? q idx = some (ix2 c j)), u q = _
  rw [Finset.sum_filter, sum_idx2]
  refine congrArg _ (Finset.sum_congr rfl fun k _ => ?_)
  simp only [lands2, ite_and]
  split
  · rw [Finset.sum_ite_eq' Finset.univ j (fun b => u (ix2 k b))]; simp
  · simp

/-- The accumulating scatter of scalars likewise. -/
theorem scatterAdd1 (x : S1000.Idx → EReal) (idx : IVec S16384x1 32) (u : S16384.Idx → EReal) (c : Fin 1000) :
    Host.scatterAdd (F := Ideal) (φ := .f32) scatter_S1000_S16384x1_S16384_n_0_0_1 x idx u (ix1 c)
      = x (ix1 c) + seg (fun k => idx (ix2 k 0)) (fun k => u (ix1 k)) c := by
  show x (ix1 c) + ∑ q ∈ Finset.univ.filter (fun q => scatter_S1000_S16384x1_S16384_n_0_0_1.resultIdx? q idx = some (ix1 c)), u q = _
  rw [Finset.sum_filter]
  refine congrArg _ ?_
  let e : Fin 16384 ≃ S16384.Idx := ⟨fun k => ix1 k, fun q => q 0, fun _ => rfl, fun q => (eq_ix1 q).symm⟩
  rw [← Equiv.sum_comp e]
  exact Finset.sum_congr rfl fun k _ => by
    show (if scatter_S1000_S16384x1_S16384_n_0_0_1.resultIdx? (ix1 k) idx = some (ix1 c) then u (ix1 k) else 0) = _
    simp only [lands1]

/-- Row `(c', j')` of the update lands in domain `d` at `(c', j')`. -/
theorem landsRow3 (idx : IVec S1 32) (e d : Fin 50) (he : (idx (ix1 0)).toInt = (e.val : Int)) (q : S1000x128.Idx) (c : Fin 1000) (j : Fin 128) :
    scatter_S50x1000x128_S1_S1000x128_01_0_0_0.resultIdx? q idx = some (ix3 d c j) ↔ d = e ∧ q = ix2 c j := by
  set D := scatter_S50x1000x128_S1_S1000x128_01_0_0_0 with hD
  obtain ⟨c', j', rfl⟩ : ∃ c' j', q = ix2 c' j' := ⟨q 0, q 1, eq_ix2 q⟩
  have hs0 : D.start (ix2 c' j') idx 0 = (e.val : Int) := by
    rw [← he]
    unfold ScatterDims.start
    rw [dif_pos (by decide)]
    congr 2
    funext b
    match b with
    | ⟨0, _⟩ => exact Subsingleton.elim (α := Fin 1) _ _
  have hs1 : D.start (ix2 c' j') idx 1 = 0 := by
    unfold ScatterDims.start
    rw [dif_neg (by decide)]
  have hs2 : D.start (ix2 c' j') idx 2 = 0 := by
    unfold ScatterDims.start
    rw [dif_neg (by decide)]
  have hw0 : D.window (ix2 c' j') 0 = 0 := by
    unfold ScatterDims.window
    rw [dif_neg (by decide)]
  have hw1 : D.window (ix2 c' j') 1 = c'.val := by
    unfold ScatterDims.window
    rw [dif_pos (by decide)]
    rfl
  have hw2 : D.window (ix2 c' j') 2 = j'.val := by
    unfold ScatterDims.window
    rw [dif_pos (by decide)]
    rfl
  rw [resultIdx?_eq_some]
  constructor
  · intro h
    have a0 := h 0
    have a1 := h 1
    have a2 := h 2
    rw [hs0, hw0] at a0
    rw [hs1, hw1] at a1
    rw [hs2, hw2] at a2
    have b0 : (e.val : Int) + (0 : ℕ) = (d.val : Int) := a0
    have b1 : (0 : Int) + (c'.val : Int) = (c.val : Int) := a1
    have b2 : (0 : Int) + (j'.val : Int) = (j.val : Int) := a2
    refine ⟨Fin.ext (by omega), ?_⟩
    rw [show c' = c from Fin.ext (by omega), show j' = j from Fin.ext (by omega)]
  · rintro ⟨rfl, h⟩ a
    have h1 : c' = c := congrFun h 0
    have h2 : j' = j := congrFun h 1
    subst h1 h2
    match a with
    | ⟨0, _⟩ => exact (congrArg₂ (fun a b => a + ((b : ℕ) : Int)) hs0 hw0).trans (by show (d.val : Int) + ((0 : ℕ) : Int) = (d.val : Int); omega)
    | ⟨1, _⟩ => exact (congrArg₂ (fun a b => a + ((b : ℕ) : Int)) hs1 hw1).trans (by show (0 : Int) + ((c'.val : ℕ) : Int) = (c'.val : Int); omega)
    | ⟨2, _⟩ => exact (congrArg₂ (fun a b => a + ((b : ℕ) : Int)) hs2 hw2).trans (by show (0 : Int) + ((j'.val : ℕ) : Int) = (j'.val : Int); omega)

/-- The same for a bank of scalars. -/
theorem landsRow2 (idx : IVec S1 32) (e d : Fin 50) (he : (idx (ix1 0)).toInt = (e.val : Int)) (q : S1000.Idx) (c : Fin 1000) :
    scatter_S50x1000_S1_S1000_0_0_0_0.resultIdx? q idx = some (ix2 d c) ↔ d = e ∧ q = ix1 c := by
  set D := scatter_S50x1000_S1_S1000_0_0_0_0 with hD
  obtain ⟨c', rfl⟩ : ∃ c', q = ix1 c' := ⟨q 0, eq_ix1 q⟩
  have hs0 : D.start (ix1 c') idx 0 = (e.val : Int) := by
    rw [← he]
    unfold ScatterDims.start
    rw [dif_pos (by decide)]
    congr 2
    funext b
    match b with
    | ⟨0, _⟩ => exact Subsingleton.elim (α := Fin 1) _ _
  have hs1 : D.start (ix1 c') idx 1 = 0 := by
    unfold ScatterDims.start
    rw [dif_neg (by decide)]
  have hw0 : D.window (ix1 c') 0 = 0 := by
    unfold ScatterDims.window
    rw [dif_neg (by decide)]
  have hw1 : D.window (ix1 c') 1 = c'.val := by
    unfold ScatterDims.window
    rw [dif_pos (by decide)]
    rfl
  rw [resultIdx?_ix2, hs0, hs1, hw0, hw1]
  constructor
  · intro h
    refine ⟨Fin.ext (by omega), ?_⟩
    rw [show c' = c from Fin.ext (by omega)]
  · rintro ⟨rfl, h⟩
    have h1 : c' = c := congrFun h 0
    subst h1
    omega

/-- Setting domain `e`'s rows: the new rows there, the bank's own elsewhere. -/
theorem set3 (x : S50x1000x128.Idx → EReal) (idx : IVec S1 32) (u : S1000x128.Idx → EReal) (e : Fin 50) (he : (idx (ix1 0)).toInt = (e.val : Int))
    (d : Fin 50) (c : Fin 1000) (j : Fin 128) :
    Host.scatter scatter_S50x1000x128_S1_S1000x128_01_0_0_0 (fun _ b => b) x idx u (ix3 d c j) = if d = e then u (ix2 c j) else x (ix3 d c j) := by
  by_cases h : d = e
  · rw [if_pos h]
    exact scatter_set_hit _ x idx u _ _ (fun q hq => congrArg u ((landsRow3 idx e d he q c j).1 hq).2) (ix2 c j) ((landsRow3 idx e d he _ c j).2 ⟨h, rfl⟩)
  · rw [if_neg h]
    exact scatter_set_miss _ x idx u _ fun q hq => h ((landsRow3 idx e d he q c j).1 hq).1

/-- Setting domain `e`'s entries likewise. -/
theorem set2 (x : S50x1000.Idx → EReal) (idx : IVec S1 32) (u : S1000.Idx → EReal) (e : Fin 50) (he : (idx (ix1 0)).toInt = (e.val : Int))
    (d : Fin 50) (c : Fin 1000) :
    Host.scatter scatter_S50x1000_S1_S1000_0_0_0_0 (fun _ b => b) x idx u (ix2 d c) = if d = e then u (ix1 c) else x (ix2 d c) := by
  by_cases h : d = e
  · rw [if_pos h]
    exact scatter_set_hit _ x idx u _ _ (fun q hq => congrArg u ((landsRow2 idx e d he q c).1 hq).2) (ix1 c) ((landsRow2 idx e d he _ c).2 ⟨h, rfl⟩)
  · rw [if_neg h]
    exact scatter_set_miss _ x idx u _ fun q hq => h ((landsRow2 idx e d he q c).1 hq).1

/-! ## The constants -/

theorem nine_tenths (i : S_.Idx) : val_main_v0 (F := Ideal) i = ((9 / 10 : ℝ) : EReal) := by
  have h9 : Ideal.ofBits .f32 0x41100000#32 = ((9 : ℝ) : EReal) := by
    simp [Ideal.ofBits, Ideal.ieee, -EReal.coe_mul]; norm_num
  have h10 : Ideal.ofBits .f32 0x41200000#32 = ((10 : ℝ) : EReal) := by
    simp [Ideal.ofBits, Ideal.ieee, -EReal.coe_mul]; norm_num
  show Ideal.div (Ideal.ofBits .f32 0x41100000#32) (Ideal.ofBits .f32 0x41200000#32) = _
  rw [h9, h10]
  unfold Ideal.div
  rw [if_neg (by exact_mod_cast (by norm_num : (10 : ℝ) ≠ 0)), ← EReal.coe_inv, ← EReal.coe_mul]
  norm_num

theorem one_f32 : (FloatOps.ofBits (F := Ideal) .f32 0x3F800000#32 : EReal) = 1 := Ideal.ofBits_one_f32

theorem zero_f32 : (FloatOps.ofBits (F := Ideal) .f32 0x00000000#32 : EReal) = 0 := by
  show Ideal.ofBits .f32 0x00000000#32 = 0
  simp [Ideal.ofBits, Ideal.ieee]

theorem one_sub_nine_tenths : (1 : EReal) - ((9 / 10 : ℝ) : EReal) = ((1 / 10 : ℝ) : EReal) := by
  rw [← EReal.coe_one, ← EReal.coe_sub]; norm_num

/-! ## The sums of a class -/

theorem labels_apply (x6 : S16384.Idx → BitVec 32) (k : Fin 16384) : val_main_v2 (F := Ideal) x6 (ix2 k 0) = x6 (ix1 k) := by
  rw [val_main_v2_apply]; exact congrArg x6 (eq_ix1 _)

theorem sum_apply (x0 : S16384x128.Idx → EReal) (x6 : S16384.Idx → BitVec 32) (c : Fin 1000) (j : Fin 128) :
    val_main_v3 (F := Ideal) x0 x6 (ix2 c j) = seg (fun k => x6 (ix1 k)) (fun k => x0 (ix2 k j)) c := by
  unfold val_main_v3
  rw [scatterAdd2, val_main_v1_apply, val_main_cst_1_apply, zero_f32, zero_add]
  simp only [labels_apply]

theorem sq_apply (x0 : S16384x128.Idx → EReal) (x6 : S16384.Idx → BitVec 32) (c : Fin 1000) (j : Fin 128) :
    val_main_v7 (F := Ideal) x0 x6 (ix2 c j) = seg (fun k => x6 (ix1 k)) (fun k => x0 (ix2 k j) * x0 (ix2 k j)) c := by
  unfold val_main_v7
  rw [scatterAdd2, val_main_v5_apply, val_main_cst_2_apply, zero_f32, zero_add]
  exact congrArg (fun l => seg l (fun k => x0 (ix2 k j) * x0 (ix2 k j)) c) (funext (labels_apply x6))

theorem count_apply (x6 : S16384.Idx → BitVec 32) (c : Fin 1000) :
    val_main_v11 (F := Ideal) x6 (ix1 c) = cnt (fun k => x6 (ix1 k)) c := by
  unfold val_main_v11
  rw [scatterAdd1, val_main_v9_apply, val_main_cst_4_apply, zero_f32, zero_add]
  simp only [val_main_v8_apply, val_main_cst_3_apply, one_f32]
  exact congrArg (fun l => seg l (fun _ => 1) c) (funext (labels_apply x6))

/-! ## The domain's rows -/

section rows

variable (x7 : S_.Idx → BitVec 32) (e : Fin 50) (he : (x7 ix0).toInt = (e.val : Int))

include he

theorem word_slt : Scalar.select (IntOp.cmpi .slt (x7 ix0) 0#32) (IntOp.addi (x7 ix0) 50#32) (x7 ix0) = x7 ix0 := by
  refine wrap_of_lt _ _ ?_
  have := e.isLt
  rw [BitVec.toInt_eq_toNat_cond] at he
  split at he <;> omega

theorem dom16 (i : S_.Idx) : (val_main_v16 (F := Ideal) x7 i).toInt = (e.val : Int) := by
  rw [eq_ix0 i, ← he]; exact congrArg BitVec.toInt (word_slt x7 e he)

theorem dom27 (i : S_.Idx) : (val_main_v27 (F := Ideal) x7 i).toInt = (e.val : Int) := by
  rw [eq_ix0 i, ← he]; exact congrArg BitVec.toInt (word_slt x7 e he)

theorem dom38 (i : S_.Idx) : (val_main_v38 (F := Ideal) x7 i).toInt = (e.val : Int) := by
  rw [eq_ix0 i, ← he]; exact congrArg BitVec.toInt (word_slt x7 e he)

theorem dom46 (i : S_.Idx) : (val_main_v46 (F := Ideal) x7 i).toInt = (e.val : Int) := by
  rw [eq_ix0 i, ← he]; exact congrArg BitVec.toInt (word_slt x7 e he)

theorem dom110 (i : S_.Idx) : (val_main_v110 (F := Ideal) x7 i).toInt = (e.val : Int) := by
  rw [eq_ix0 i, ← he]; exact congrArg BitVec.toInt (word_slt x7 e he)

theorem dom122 (i : S_.Idx) : (val_main_v122 (F := Ideal) x7 i).toInt = (e.val : Int) := by
  rw [eq_ix0 i, ← he]; exact congrArg BitVec.toInt (word_slt x7 e he)

theorem dom127 (i : S_.Idx) : (val_main_v127 (F := Ideal) x7 i).toInt = (e.val : Int) := by
  rw [eq_ix0 i, ← he]; exact congrArg BitVec.toInt (word_slt x7 e he)

theorem dom132 (i : S_.Idx) : (val_main_v132 (F := Ideal) x7 i).toInt = (e.val : Int) := by
  rw [eq_ix0 i, ← he]; exact congrArg BitVec.toInt (word_slt x7 e he)

theorem dom137 (i : S_.Idx) : (val_main_v137 (F := Ideal) x7 i).toInt = (e.val : Int) := by
  rw [eq_ix0 i, ← he]; exact congrArg BitVec.toInt (word_slt x7 e he)

theorem dom142 (i : S_.Idx) : (val_main_v142 (F := Ideal) x7 i).toInt = (e.val : Int) := by
  rw [eq_ix0 i, ← he]; exact congrArg BitVec.toInt (word_slt x7 e he)

theorem row24 (x1 : S50x1000x128.Idx → EReal) (c : Fin 1000) (j : Fin 128) :
    val_main_v24 (F := Ideal) x1 x7 (ix2 c j) = x1 (ix3 e c j) := by
  rw [val_main_v24_apply]
  have hi : idx_main_v24 (ix2 c j) = ix3 0 c j := by
    have hc := c.isLt
    have hj := j.isLt
    refine funext fun a => Fin.ext ?_
    match a with
    | ⟨0, _⟩ => rfl
    | ⟨1, _⟩ => show (c.val * 128 + j.val) / 128 % 1000 = c.val; omega
    | ⟨2, _⟩ => show (c.val * 128 + j.val) % 128 = j.val; omega
  rw [hi]
  exact slice3 x1 _ _ e (dom16 x7 e he _) rfl rfl c j

theorem row35 (x2 : S50x1000x128.Idx → EReal) (c : Fin 1000) (j : Fin 128) :
    val_main_v35 (F := Ideal) x2 x7 (ix2 c j) = x2 (ix3 e c j) := by
  rw [val_main_v35_apply]
  have hi : idx_main_v35 (ix2 c j) = ix3 0 c j := by
    have hc := c.isLt
    have hj := j.isLt
    refine funext fun a => Fin.ext ?_
    match a with
    | ⟨0, _⟩ => rfl
    | ⟨1, _⟩ => show (c.val * 128 + j.val) / 128 % 1000 = c.val; omega
    | ⟨2, _⟩ => show (c.val * 128 + j.val) % 128 = j.val; omega
  rw [hi]
  exact slice3 x2 _ _ e (dom27 x7 e he _) rfl rfl c j

theorem row118 (x5 : S50x1000x128.Idx → EReal) (c : Fin 1000) (j : Fin 128) :
    val_main_v118 (F := Ideal) x5 x7 (ix2 c j) = x5 (ix3 e c j) := by
  rw [val_main_v118_apply]
  have hi : idx_main_v118 (ix2 c j) = ix3 0 c j := by
    have hc := c.isLt
    have hj := j.isLt
    refine funext fun a => Fin.ext ?_
    match a with
    | ⟨0, _⟩ => rfl
    | ⟨1, _⟩ => show (c.val * 128 + j.val) / 128 % 1000 = c.val; omega
    | ⟨2, _⟩ => show (c.val * 128 + j.val) % 128 = j.val; omega
  rw [hi]
  exact slice3 x5 _ _ e (dom110 x7 e he _) rfl rfl c j

theorem row43 (x3 : S50x1000.Idx → EReal) (c : Fin 1000) : val_main_v43 (F := Ideal) x3 x7 (ix1 c) = x3 (ix2 e c) := by
  rw [val_main_v43_apply]
  have hi : idx_main_v43 (ix1 c) = ix2 0 c := by
    have hc := c.isLt
    refine funext fun a => Fin.ext ?_
    match a with
    | ⟨0, _⟩ => rfl
    | ⟨1, _⟩ => show c.val % 1000 = c.val; omega
  rw [hi]
  exact slice2 x3 _ _ e (dom38 x7 e he _) rfl c

theorem row51 (x4 : S50x1000.Idx → EReal) (c : Fin 1000) : val_main_v51 (F := Ideal) x4 x7 (ix1 c) = x4 (ix2 e c) := by
  rw [val_main_v51_apply]
  have hi : idx_main_v51 (ix1 c) = ix2 0 c := by
    have hc := c.isLt
    refine funext fun a => Fin.ext ?_
    match a with
    | ⟨0, _⟩ => rfl
    | ⟨1, _⟩ => show c.val % 1000 = c.val; omega
  rw [hi]
  exact slice2 x4 _ _ e (dom46 x7 e he _) rfl c

/-! ## The updated rows -/

/-- The domain's count row, and the batch's counts. -/
abbrev N (x6 : S16384.Idx → BitVec 32) (c : Fin 1000) : EReal := cnt (fun k => x6 (ix1 k)) c

omit he in
theorem m55 (i) : val_main_v55 (F := Ideal) i = ((9 / 10 : ℝ) : EReal) := by
  rw [val_main_v55_apply, val_main_v54_apply, nine_tenths]
omit he in
theorem m63 (i) : val_main_v63 (F := Ideal) i = ((9 / 10 : ℝ) : EReal) := by
  rw [val_main_v63_apply, val_main_v62_apply, nine_tenths]
omit he in
theorem m71 (i) : val_main_v71 (F := Ideal) i = ((9 / 10 : ℝ) : EReal) := by
  rw [val_main_v71_apply, val_main_v70_apply, nine_tenths]
omit he in
theorem m95 (i) : val_main_v95 (F := Ideal) i = ((9 / 10 : ℝ) : EReal) := by
  rw [val_main_v95_apply, val_main_v94_apply, nine_tenths]
omit he in
theorem t59 (i) : val_main_v59 (F := Ideal) i = ((1 / 10 : ℝ) : EReal) := by
  rw [val_main_v59_apply, val_main_v58_apply, val_main_v57_apply, nine_tenths, val_main_cst_44_apply, one_f32]
  exact one_sub_nine_tenths
omit he in
theorem t67 (i) : val_main_v67 (F := Ideal) i = ((1 / 10 : ℝ) : EReal) := by
  rw [val_main_v67_apply, val_main_v66_apply, val_main_v65_apply, nine_tenths, val_main_cst_45_apply, one_f32]
  exact one_sub_nine_tenths
omit he in
theorem t75 (i) : val_main_v75 (F := Ideal) i = ((1 / 10 : ℝ) : EReal) := by
  rw [val_main_v75_apply, val_main_v74_apply, val_main_v73_apply, nine_tenths, val_main_cst_46_apply, one_f32]
  exact one_sub_nine_tenths

omit he in
theorem has13 (x6 : S16384.Idx → BitVec 32) (c : Fin 1000) : val_main_v13 (F := Ideal) x6 (ix1 c) = has (N x6 c) := by
  rw [val_main_v13_apply, count_apply, val_main_v12_apply, val_main_cst_5_apply, zero_f32]
  rfl

theorem fresh53 (x3 : S50x1000.Idx → EReal) (c : Fin 1000) : val_main_v53 (F := Ideal) x3 x7 (ix1 c) = fresh (x3 (ix2 e c)) := by
  rw [val_main_v53_apply, row43 x7 e he, val_main_v52_apply, val_main_cst_43_apply, zero_f32]
  rfl

/-- The updated sums of the domain. -/
theorem new87 (x0 : S16384x128.Idx → EReal) (x1 : S50x1000x128.Idx → EReal) (x3 : S50x1000.Idx → EReal) (x6 : S16384.Idx → BitVec 32)
    (c : Fin 1000) (j : Fin 128) :
    val_main_v87 (F := Ideal) x0 x1 x3 x6 x7 (ix2 c j)
      = mom (N x6 c) (x3 (ix2 e c)) (seg (fun k => x6 (ix1 k)) (fun k => x0 (ix2 k j)) c) (x1 (ix3 e c j)) := by
  rw [val_main_v87_apply, val_main_call4_v0_apply, val_main_v86_apply, val_main_v79_apply, val_main_call0_v0_apply, val_main_v78_apply,
    show idx_main_v86 (idx_main_call4_v0 (ix2 c j)) = ix1 c from eq_ix1 _, show idx_main_v78 (idx_main_call0_v0 (ix2 c j)) = ix1 c from eq_ix1 _,
    has13, fresh53 x7 e he, val_main_v61_apply, val_main_v56_apply, val_main_v60_apply, m55, t59, sum_apply, row24 x7 e he]
  rfl

/-- The updated sums of squares. -/
theorem new89 (x0 : S16384x128.Idx → EReal) (x2 : S50x1000x128.Idx → EReal) (x3 : S50x1000.Idx → EReal) (x6 : S16384.Idx → BitVec 32)
    (c : Fin 1000) (j : Fin 128) :
    val_main_v89 (F := Ideal) x0 x2 x3 x6 x7 (ix2 c j)
      = mom (N x6 c) (x3 (ix2 e c)) (seg (fun k => x6 (ix1 k)) (fun k => x0 (ix2 k j) * x0 (ix2 k j)) c) (x2 (ix3 e c j)) := by
  rw [val_main_v89_apply, val_main_call5_v0_apply, val_main_v88_apply, val_main_v81_apply, val_main_call1_v0_apply, val_main_v80_apply,
    show idx_main_v88 (idx_main_call5_v0 (ix2 c j)) = ix1 c from eq_ix1 _, show idx_main_v80 (idx_main_call1_v0 (ix2 c j)) = ix1 c from eq_ix1 _,
    has13, fresh53 x7 e he, val_main_v69_apply, val_main_v64_apply, val_main_v68_apply, m63, t67, sq_apply, row35 x7 e he]
  rfl

/-- The updated counts. -/
theorem new90 (x3 : S50x1000.Idx → EReal) (x6 : S16384.Idx → BitVec 32) (c : Fin 1000) :
    val_main_v90 (F := Ideal) x3 x6 x7 (ix1 c) = mom (N x6 c) (x3 (ix2 e c)) (N x6 c) (x3 (ix2 e c)) := by
  rw [val_main_v90_apply, val_main_v82_apply, has13, fresh53 x7 e he, val_main_v77_apply, val_main_v72_apply, val_main_v76_apply, m71, t75,
    count_apply, row43 x7 e he]
  rfl

/-- The updated step counters. -/
theorem new91 (x3 x4 : S50x1000.Idx → EReal) (x6 : S16384.Idx → BitVec 32) (c : Fin 1000) :
    val_main_v91 (F := Ideal) x3 x4 x6 x7 (ix1 c) = step (N x6 c) (x3 (ix2 e c)) (x4 (ix2 e c)) := by
  rw [val_main_v91_apply, val_main_v85_apply, has13, fresh53 x7 e he, val_main_v84_apply, val_main_v83_apply, val_main_cst_47_apply, one_f32,
    val_main_call3_v1_apply, val_main_call3_v0_apply, val_main_cst_48_apply, one_f32, row51 x7 e he]
  rfl

theorem bias98 (x3 x4 : S50x1000.Idx → EReal) (x6 : S16384.Idx → BitVec 32) (c : Fin 1000) :
    val_main_v98 (F := Ideal) x3 x4 x6 x7 (ix1 c) = bias (step (N x6 c) (x3 (ix2 e c)) (x4 (ix2 e c))) := by
  rw [val_main_v98_apply, val_main_v97_apply, val_main_cst_50_apply, one_f32, val_main_v96_apply, m95, val_main_v93_apply, new91 x7 e he,
    val_main_v92_apply, val_main_cst_49_apply, one_f32]
  rfl

/-- The updated prototypes. -/
theorem new119 (x0 : S16384x128.Idx → EReal) (x1 : S50x1000x128.Idx → EReal) (x3 x4 : S50x1000.Idx → EReal) (x5 : S50x1000x128.Idx → EReal)
    (x6 : S16384.Idx → BitVec 32) (c : Fin 1000) (j : Fin 128) :
    val_main_v119 (F := Ideal) x0 x1 x3 x4 x5 x6 x7 (ix2 c j)
      = proto (N x6 c) (mom (N x6 c) (x3 (ix2 e c)) (seg (fun k => x6 (ix1 k)) (fun k => x0 (ix2 k j)) c) (x1 (ix3 e c j)))
          (mom (N x6 c) (x3 (ix2 e c)) (N x6 c) (x3 (ix2 e c))) (step (N x6 c) (x3 (ix2 e c)) (x4 (ix2 e c))) (x5 (ix3 e c j)) := by
  rw [val_main_v119_apply, val_main_call9_v0_apply, val_main_v107_apply, show idx_main_v107 (idx_main_call9_v0 (ix2 c j)) = ix1 c from eq_ix1 _,
    has13, row118 x7 e he, val_main_v106_apply, val_main_v101_apply, val_main_v105_apply, val_main_v104_apply, val_main_v100_apply,
    val_main_v99_apply, show idx_main_v99 (idx_main_v100 (ix2 c j)) = ix1 c from eq_ix1 _,
    show idx_main_v104 (idx_main_v105 (ix2 c j)) = ix1 c from eq_ix1 _, bias98 x7 e he, new87 x7 e he, val_main_v103_apply, val_main_call8_v1_apply,
    val_main_call8_v0_apply, val_main_cst_51_apply, one_f32, val_main_v102_apply, new90 x7 e he, bias98 x7 e he]
  rfl

/-! ## The results -/

theorem res124 (x0 : S16384x128.Idx → EReal) (x1 : S50x1000x128.Idx → EReal) (x3 : S50x1000.Idx → EReal) (x6 : S16384.Idx → BitVec 32)
    (d : Fin 50) (c : Fin 1000) (j : Fin 128) :
    val_main_v124 (F := Ideal) x0 x1 x3 x6 x7 (ix3 d c j)
      = if d = e then mom (N x6 c) (x3 (ix2 e c)) (seg (fun k => x6 (ix1 k)) (fun k => x0 (ix2 k j)) c) (x1 (ix3 e c j)) else x1 (ix3 d c j) := by
  have hi : (val_main_v123 (F := Ideal) x7 (ix1 0)).toInt = (e.val : Int) := by
    rw [val_main_v123_apply]; exact dom122 x7 e he _
  rw [← new87 x7 e he x0 x1 x3 x6 c j]
  exact set3 x1 (val_main_v123 (F := Ideal) x7) (val_main_v87 (F := Ideal) x0 x1 x3 x6 x7) e hi d c j

theorem res129 (x0 : S16384x128.Idx → EReal) (x2 : S50x1000x128.Idx → EReal) (x3 : S50x1000.Idx → EReal) (x6 : S16384.Idx → BitVec 32)
    (d : Fin 50) (c : Fin 1000) (j : Fin 128) :
    val_main_v129 (F := Ideal) x0 x2 x3 x6 x7 (ix3 d c j)
      = if d = e then mom (N x6 c) (x3 (ix2 e c)) (seg (fun k => x6 (ix1 k)) (fun k => x0 (ix2 k j) * x0 (ix2 k j)) c) (x2 (ix3 e c j))
        else x2 (ix3 d c j) := by
  have hi : (val_main_v128 (F := Ideal) x7 (ix1 0)).toInt = (e.val : Int) := by
    rw [val_main_v128_apply]; exact dom127 x7 e he _
  rw [← new89 x7 e he x0 x2 x3 x6 c j]
  exact set3 x2 (val_main_v128 (F := Ideal) x7) (val_main_v89 (F := Ideal) x0 x2 x3 x6 x7) e hi d c j

theorem res134 (x3 : S50x1000.Idx → EReal) (x6 : S16384.Idx → BitVec 32) (d : Fin 50) (c : Fin 1000) :
    val_main_v134 (F := Ideal) x3 x6 x7 (ix2 d c)
      = if d = e then mom (N x6 c) (x3 (ix2 e c)) (N x6 c) (x3 (ix2 e c)) else x3 (ix2 d c) := by
  have hi : (val_main_v133 (F := Ideal) x7 (ix1 0)).toInt = (e.val : Int) := by
    rw [val_main_v133_apply]; exact dom132 x7 e he _
  rw [← new90 x7 e he x3 x6 c]
  exact set2 x3 (val_main_v133 (F := Ideal) x7) (val_main_v90 (F := Ideal) x3 x6 x7) e hi d c

theorem res139 (x3 x4 : S50x1000.Idx → EReal) (x6 : S16384.Idx → BitVec 32) (d : Fin 50) (c : Fin 1000) :
    val_main_v139 (F := Ideal) x3 x4 x6 x7 (ix2 d c)
      = if d = e then step (N x6 c) (x3 (ix2 e c)) (x4 (ix2 e c)) else x4 (ix2 d c) := by
  have hi : (val_main_v138 (F := Ideal) x7 (ix1 0)).toInt = (e.val : Int) := by
    rw [val_main_v138_apply]; exact dom137 x7 e he _
  rw [← new91 x7 e he x3 x4 x6 c]
  exact set2 x4 (val_main_v138 (F := Ideal) x7) (val_main_v91 (F := Ideal) x3 x4 x6 x7) e hi d c

theorem res144 (x0 : S16384x128.Idx → EReal) (x1 : S50x1000x128.Idx → EReal) (x3 x4 : S50x1000.Idx → EReal) (x5 : S50x1000x128.Idx → EReal)
    (x6 : S16384.Idx → BitVec 32) (d : Fin 50) (c : Fin 1000) (j : Fin 128) :
    val_main_v144 (F := Ideal) x0 x1 x3 x4 x5 x6 x7 (ix3 d c j)
      = if d = e then proto (N x6 c) (mom (N x6 c) (x3 (ix2 e c)) (seg (fun k => x6 (ix1 k)) (fun k => x0 (ix2 k j)) c) (x1 (ix3 e c j)))
          (mom (N x6 c) (x3 (ix2 e c)) (N x6 c) (x3 (ix2 e c))) (step (N x6 c) (x3 (ix2 e c)) (x4 (ix2 e c))) (x5 (ix3 e c j))
        else x5 (ix3 d c j) := by
  have hi : (val_main_v143 (F := Ideal) x7 (ix1 0)).toInt = (e.val : Int) := by
    rw [val_main_v143_apply]; exact dom142 x7 e he _
  rw [← new119 x7 e he x0 x1 x3 x4 x5 x6 c j]
  exact set3 x5 (val_main_v143 (F := Ideal) x7) (val_main_v119 (F := Ideal) x0 x1 x3 x4 x5 x6 x7) e hi d c j

end rows

end Cert.Alg.Ref

end
-- ==== Proof.Alg.Tie.lean ====
/- The claim that the kernel over the reals computes the reference's five results: the two are the same at every index, on
   the batch's domain by the element formulas of the two, on every other domain by the banks' zero rows. -/
module

public import proofs.«01_k».proof.Proof.Alg.Ker
public import proofs.«01_k».proof.Proof.Alg.Ref
public import proofs.«01_k».proof.Proof.Gen.ReferenceIdeal.Run
public import Idealize.ShloMosaic.Lib.Claim

@[expose] public section

noncomputable section

open Idealize.ShloMosaic Idealize.ShloMosaic.TcCoe Idealize.ShloMosaic.StableHlo Idealize.SL.Sem

namespace Cert.Alg.Tie

open Cert.KernelIdeal Cert.KernelIdeal.Gen Cert.KernelIdeal.Upd Cert.Alg.Ker

variable (m : (ℓ : Loc nD τ sig) → Buf (Elt Ideal) ℓ) (c : Dev nD)

theorem first_word : A7 m c (Shape.Idx.first h_S_) = A7 m c ix0 := congrArg (A7 m c) (funext fun a : Fin 0 => a.elim0)

/-- Two rows chosen by the same domain, when the entry kept outside it is zero. -/
theorem same {p : Prop} [Decidable p] (x y : EReal) (h : ¬ p → y = 0) : (if p then x else y) = if p then x else 0 := by
  by_cases hp : p
  · rw [if_pos hp, if_pos hp]
  · rw [if_neg hp, if_neg hp, h hp]

variable (hp : Cert.Pre_KernelIdeal_other_domains_empty m)

include hp

theorem tie_sum : Cert.ReferenceIdeal.Read.val_main_v124 (F := Ideal) (A0 m c) (A1 m c) (A3 m c) (A6 m c) (A7 m c) = V12 m (outsK m) c (Proc.devRef .tc main_v13_0) := by
  have hc := hp c
  obtain ⟨e, he⟩ := Pre.domain (A0 m c) (A1 m c) (A2 m c) (A3 m c) (A4 m c) (A5 m c) (A6 m c) (A7 m c) hc.2.1
  funext y
  obtain ⟨d, cl, j, rfl⟩ : ∃ (d : Fin 50) (cl : Fin 1000) (j : Fin 128), y = (ix3 d cl j) := by
    idx_vars y
    exact ⟨_, _, _, rfl⟩
  refine (Ref.res124 (A7 m c) e he (A0 m c) (A1 m c) (A3 m c) (A6 m c) d cl j).trans ((same _ _ fun hd => ?_).trans
    (bank_sum m c e ((congrArg BitVec.toInt (first_word m c)).trans he) (Pre.labels (A0 m c) (A1 m c) (A2 m c) (A3 m c) (A4 m c) (A5 m c) (A6 m c) (A7 m c) hc.1) d cl j).symm)
  exact Pre.zero1 (A0 m c) (A1 m c) (A2 m c) (A3 m c) (A4 m c) (A5 m c) (A6 m c) (A7 m c) hc.2.2.1 d cl j fun h => hd (Fin.ext (by have := he.symm.trans h; omega))

theorem tie_sq : Cert.ReferenceIdeal.Read.val_main_v129 (F := Ideal) (A0 m c) (A2 m c) (A3 m c) (A6 m c) (A7 m c) = V12 m (outsK m) c (Proc.devRef .tc main_v13_1) := by
  have hc := hp c
  obtain ⟨e, he⟩ := Pre.domain (A0 m c) (A1 m c) (A2 m c) (A3 m c) (A4 m c) (A5 m c) (A6 m c) (A7 m c) hc.2.1
  funext y
  obtain ⟨d, cl, j, rfl⟩ : ∃ (d : Fin 50) (cl : Fin 1000) (j : Fin 128), y = (ix3 d cl j) := by
    idx_vars y
    exact ⟨_, _, _, rfl⟩
  refine (Ref.res129 (A7 m c) e he (A0 m c) (A2 m c) (A3 m c) (A6 m c) d cl j).trans ((same _ _ fun hd => ?_).trans
    (bank_sq m c e ((congrArg BitVec.toInt (first_word m c)).trans he) (Pre.labels (A0 m c) (A1 m c) (A2 m c) (A3 m c) (A4 m c) (A5 m c) (A6 m c) (A7 m c) hc.1) d cl j).symm)
  exact Pre.zero2 (A0 m c) (A1 m c) (A2 m c) (A3 m c) (A4 m c) (A5 m c) (A6 m c) (A7 m c) hc.2.2.2.1 d cl j fun h => hd (Fin.ext (by have := he.symm.trans h; omega))

theorem tie_cnt : Cert.ReferenceIdeal.Read.val_main_v134 (F := Ideal) (A3 m c) (A6 m c) (A7 m c) = V12 m (outsK m) c (Proc.devRef .tc main_v14) := by
  have hc := hp c
  obtain ⟨e, he⟩ := Pre.domain (A0 m c) (A1 m c) (A2 m c) (A3 m c) (A4 m c) (A5 m c) (A6 m c) (A7 m c) hc.2.1
  funext y
  obtain ⟨d, cl, rfl⟩ : ∃ (d : Fin 50) (cl : Fin 1000), y = (ix2 d cl) := by
    idx_vars y
    exact ⟨_, _, rfl⟩
  refine (Ref.res134 (A7 m c) e he (A3 m c) (A6 m c) d cl).trans ((same _ _ fun hd => ?_).trans
    (bank_cnt m c e ((congrArg BitVec.toInt (first_word m c)).trans he) (Pre.labels (A0 m c) (A1 m c) (A2 m c) (A3 m c) (A4 m c) (A5 m c) (A6 m c) (A7 m c) hc.1) d cl).symm)
  exact Pre.zero3 (A0 m c) (A1 m c) (A2 m c) (A3 m c) (A4 m c) (A5 m c) (A6 m c) (A7 m c) hc.2.2.2.2.1 d cl fun h => hd (Fin.ext (by have := he.symm.trans h; omega))

theorem tie_step : Cert.ReferenceIdeal.Read.val_main_v139 (F := Ideal) (A3 m c) (A4 m c) (A6 m c) (A7 m c) = V12 m (outsK m) c (Proc.devRef .tc main_v15) := by
  have hc := hp c
  obtain ⟨e, he⟩ := Pre.domain (A0 m c) (A1 m c) (A2 m c) (A3 m c) (A4 m c) (A5 m c) (A6 m c) (A7 m c) hc.2.1
  funext y
  obtain ⟨d, cl, rfl⟩ : ∃ (d : Fin 50) (cl : Fin 1000), y = (ix2 d cl) := by
    idx_vars y
    exact ⟨_, _, rfl⟩
  refine (Ref.res139 (A7 m c) e he (A3 m c) (A4 m c) (A6 m c) d cl).trans ((same _ _ fun hd => ?_).trans
    (bank_step m c e ((congrArg BitVec.toInt (first_word m c)).trans he) (Pre.labels (A0 m c) (A1 m c) (A2 m c) (A3 m c) (A4 m c) (A5 m c) (A6 m c) (A7 m c) hc.1) d cl).symm)
  exact Pre.zero4 (A0 m c) (A1 m c) (A2 m c) (A3 m c) (A4 m c) (A5 m c) (A6 m c) (A7 m c) hc.2.2.2.2.2.1 d cl fun h => hd (Fin.ext (by have := he.symm.trans h; omega))

theorem tie_proto : Cert.ReferenceIdeal.Read.val_main_v144 (F := Ideal) (A0 m c) (A1 m c) (A3 m c) (A4 m c) (A5 m c) (A6 m c) (A7 m c) = V12 m (outsK m) c (Proc.devRef .tc main_v13_4) := by
  have hc := hp c
  obtain ⟨e, he⟩ := Pre.domain (A0 m c) (A1 m c) (A2 m c) (A3 m c) (A4 m c) (A5 m c) (A6 m c) (A7 m c) hc.2.1
  funext y
  obtain ⟨d, cl, j, rfl⟩ : ∃ (d : Fin 50) (cl : Fin 1000) (j : Fin 128), y = (ix3 d cl j) := by
    idx_vars y
    exact ⟨_, _, _, rfl⟩
  refine (Ref.res144 (A7 m c) e he (A0 m c) (A1 m c) (A3 m c) (A4 m c) (A5 m c) (A6 m c) d cl j).trans ((same _ _ fun hd => ?_).trans
    (bank_proto m c e ((congrArg BitVec.toInt (first_word m c)).trans he) (Pre.labels (A0 m c) (A1 m c) (A2 m c) (A3 m c) (A4 m c) (A5 m c) (A6 m c) (A7 m c) hc.1) d cl j).symm)
  exact Pre.zero5 (A0 m c) (A1 m c) (A2 m c) (A3 m c) (A4 m c) (A5 m c) (A6 m c) (A7 m c) hc.2.2.2.2.2.2 d cl j fun h => hd (Fin.ext (by have := he.symm.trans h; omega))

omit hp

/-- The kernel over the reals ends with the five results the reference ends with, wherever the precondition holds. -/
theorem algebraic : Cert.algebraic_KernelIdeal_ReferenceIdeal_pre_other_domains_empty := by
  intro m g m' g' hp hin
  refine ⟨fun c => V12 m (outsK m) c (Proc.devRef .tc main_v13_0), fun c => V12 m (outsK m) c (Proc.devRef .tc main_v13_1), fun c => V12 m (outsK m) c (Proc.devRef .tc main_v14), fun c => V12 m (outsK m) c (Proc.devRef .tc main_v15), fun c => V12 m (outsK m) c (Proc.devRef .tc main_v13_4), ?_, ?_⟩
  · refine (θ_run Cert.KernelIdeal.defs _ _).mono (fun r h c => ?_) (Cert.KernelIdeal.Upd.run_values (F := Ideal) m g)
    have at_ := fun (x : Ref Cert.KernelIdeal.sig .tc) (hx : _) =>
      h.1 c (Proc.devRef .tc x) (Finset.mem_filter.mpr ⟨StableHlo.devRef_mem_tcRefs x, hx⟩)
    exact ⟨at_ main_v13_0 (by decide), at_ main_v13_1 (by decide), at_ main_v14 (by decide), at_ main_v15 (by decide), at_ main_v13_4 (by decide),
      (at_ main_arg0 (by decide)).trans (V12_main_arg0 m _ c),
      (at_ main_arg1 (by decide)).trans (V12_main_arg1 m _ c),
      (at_ main_arg2 (by decide)).trans (V12_main_arg2 m _ c),
      (at_ main_arg3 (by decide)).trans (V12_main_arg3 m _ c),
      (at_ main_arg4 (by decide)).trans (V12_main_arg4 m _ c),
      (at_ main_arg5 (by decide)).trans (V12_main_arg5 m _ c),
      (at_ main_arg6 (by decide)).trans (V12_main_arg6 m _ c),
      (at_ main_arg7 (by decide)).trans (V12_main_arg7 m _ c)⟩
  · refine (θ_run Cert.ReferenceIdeal.defs _ _).mono (fun r h c => ?_) (Cert.ReferenceIdeal.Value.run (F := Ideal) m' g')
    have hc := h c
    have e0 : launchContents m' c (Proc.devRef .tc Cert.ReferenceIdeal.main_arg0) = A0 m c := (launchContents_devRef m' c _).trans (hin c).1
    have e1 : launchContents m' c (Proc.devRef .tc Cert.ReferenceIdeal.main_arg1) = A1 m c := (launchContents_devRef m' c _).trans (hin c).2.1
    have e2 : launchContents m' c (Proc.devRef .tc Cert.ReferenceIdeal.main_arg2) = A2 m c := (launchContents_devRef m' c _).trans (hin c).2.2.1
    have e3 : launchContents m' c (Proc.devRef .tc Cert.ReferenceIdeal.main_arg3) = A3 m c := (launchContents_devRef m' c _).trans (hin c).2.2.2.1
    have e4 : launchContents m' c (Proc.devRef .tc Cert.ReferenceIdeal.main_arg4) = A4 m c := (launchContents_devRef m' c _).trans (hin c).2.2.2.2.1
    have e5 : launchContents m' c (Proc.devRef .tc Cert.ReferenceIdeal.main_arg5) = A5 m c := (launchContents_devRef m' c _).trans (hin c).2.2.2.2.2.1
    have e6 : launchContents m' c (Proc.devRef .tc Cert.ReferenceIdeal.main_arg6) = A6 m c := (launchContents_devRef m' c _).trans (hin c).2.2.2.2.2.2.1
    have e7 : launchContents m' c (Proc.devRef .tc Cert.ReferenceIdeal.main_arg7) = A7 m c := (launchContents_devRef m' c _).trans (hin c).2.2.2.2.2.2.2
    have r0 : Cert.ReferenceIdeal.Read.val_main_v124 (F := Ideal) (launchContents m' c (Proc.devRef .tc Cert.ReferenceIdeal.main_arg0)) (launchContents m' c (Proc.devRef .tc Cert.ReferenceIdeal.main_arg1)) (launchContents m' c (Proc.devRef .tc Cert.ReferenceIdeal.main_arg3)) (launchContents m' c (Proc.devRef .tc Cert.ReferenceIdeal.main_arg6)) (launchContents m' c (Proc.devRef .tc Cert.ReferenceIdeal.main_arg7))
        = V12 m (outsK m) c (Proc.devRef .tc main_v13_0) := by
      rw [e0, e1, e3, e6, e7]
      exact tie_sum m c hp
    have r1 : Cert.ReferenceIdeal.Read.val_main_v129 (F := Ideal) (launchContents m' c (Proc.devRef .tc Cert.ReferenceIdeal.main_arg0)) (launchContents m' c (Proc.devRef .tc Cert.ReferenceIdeal.main_arg2)) (launchContents m' c (Proc.devRef .tc Cert.ReferenceIdeal.main_arg3)) (launchContents m' c (Proc.devRef .tc Cert.ReferenceIdeal.main_arg6)) (launchContents m' c (Proc.devRef .tc Cert.ReferenceIdeal.main_arg7))
        = V12 m (outsK m) c (Proc.devRef .tc main_v13_1) := by
      rw [e0, e2, e3, e6, e7]
      exact tie_sq m c hp
    have r2 : Cert.ReferenceIdeal.Read.val_main_v134 (F := Ideal) (launchContents m' c (Proc.devRef .tc Cert.ReferenceIdeal.main_arg3)) (launchContents m' c (Proc.devRef .tc Cert.ReferenceIdeal.main_arg6)) (launchContents m' c (Proc.devRef .tc Cert.ReferenceIdeal.main_arg7))
        = V12 m (outsK m) c (Proc.devRef .tc main_v14) := by
      rw [e3, e6, e7]
      exact tie_cnt m c hp
    have r3 : Cert.ReferenceIdeal.Read.val_main_v139 (F := Ideal) (launchContents m' c (Proc.devRef .tc Cert.ReferenceIdeal.main_arg3)) (launchContents m' c (Proc.devRef .tc Cert.ReferenceIdeal.main_arg4)) (launchContents m' c (Proc.devRef .tc Cert.ReferenceIdeal.main_arg6)) (launchContents m' c (Proc.devRef .tc Cert.ReferenceIdeal.main_arg7))
        = V12 m (outsK m) c (Proc.devRef .tc main_v15) := by
      rw [e3, e4, e6, e7]
      exact tie_step m c hp
    have r4 : Cert.ReferenceIdeal.Read.val_main_v144 (F := Ideal) (launchContents m' c (Proc.devRef .tc Cert.ReferenceIdeal.main_arg0)) (launchContents m' c (Proc.devRef .tc Cert.ReferenceIdeal.main_arg1)) (launchContents m' c (Proc.devRef .tc Cert.ReferenceIdeal.main_arg3)) (launchContents m' c (Proc.devRef .tc Cert.ReferenceIdeal.main_arg4)) (launchContents m' c (Proc.devRef .tc Cert.ReferenceIdeal.main_arg5)) (launchContents m' c (Proc.devRef .tc Cert.ReferenceIdeal.main_arg6)) (launchContents m' c (Proc.devRef .tc Cert.ReferenceIdeal.main_arg7))
        = V12 m (outsK m) c (Proc.devRef .tc main_v13_4) := by
      rw [e0, e1, e3, e4, e5, e6, e7]
      exact tie_proto m c hp
    exact ⟨hc.1.trans ((Cert.ReferenceIdeal.Read.val_main_v124_eq (F := Ideal) (launchContents m' c)).trans r0),
      hc.2.1.trans ((Cert.ReferenceIdeal.Read.val_main_v129_eq (F := Ideal) (launchContents m' c)).trans r1),
      hc.2.2.1.trans ((Cert.ReferenceIdeal.Read.val_main_v134_eq (F := Ideal) (launchContents m' c)).trans r2),
      hc.2.2.2.1.trans ((Cert.ReferenceIdeal.Read.val_main_v139_eq (F := Ideal) (launchContents m' c)).trans r3),
      hc.2.2.2.2.1.trans ((Cert.ReferenceIdeal.Read.val_main_v144_eq (F := Ideal) (launchContents m' c)).trans r4), hc.2.2.2.2.2⟩

end Cert.Alg.Tie
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_other_domains_empty
public import proofs.«01_k».proof.Proof.Frames
public import proofs.«01_k».proof.Proof.Alg.Tie
public import proofs.«01_k».proof.Proof.Gen.ReferenceIdeal.Read
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_other_domains_empty.Gen.facts,
    Cert.Frames.kernel, Cert.Frames.kernelIdeal, Cert.Frames.kernelIdeal_pre, Cert.Frames.referenceIdeal, Cert.Frames.referenceIdeal_pre,
    Cert.Frames.preserves, Cert.Alg.Tie.algebraic⟩

end Cert.Proof

end
